-- ==== Defs.lean ====
def Pre_Kernel [hPre_addresses : Cert.Pre_addresses.Facts] (m : (ℓ : Loc Cert.Kernel.nD Cert.Kernel.τ Cert.Kernel.sig) → Buf (Elt Bits) ℓ) : Prop :=
  ∀ c : Dev Cert.Kernel.nD,
    (Cert.Pre_addresses.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_addresses : Cert.Pre_addresses.Facts] (m : (ℓ : Loc Cert.KernelIdeal.nD Cert.KernelIdeal.τ Cert.KernelIdeal.sig) → Buf (Elt Ideal) ℓ) : Prop :=
  ∀ c : Dev Cert.KernelIdeal.nD,
    (Cert.Pre_addresses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_addresses_and_words [hPre_addresses_and_words : Cert.Pre_addresses_and_words.Facts] (m : (ℓ : Loc Cert.KernelIdeal.nD Cert.KernelIdeal.τ Cert.KernelIdeal.sig) → Buf (Elt Ideal) ℓ) : Prop :=
  ∀ c : Dev Cert.KernelIdeal.nD,
    (Cert.Pre_addresses_and_words.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_addresses_and_words [hPre_addresses_and_words : Cert.Pre_addresses_and_words.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_addresses_and_words.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_addresses : Cert.Pre_addresses.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_addresses : Cert.Pre_addresses.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_addresses_and_words [hKernelIdeal : Cert.KernelIdeal.Facts] [hPre_addresses_and_words : Cert.Pre_addresses_and_words.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_addresses_and_words m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_addresses_and_words [hReferenceIdeal : Cert.ReferenceIdeal.Facts] [hPre_addresses_and_words : Cert.Pre_addresses_and_words.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_addresses_and_words m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_addresses_and_words [hKernelIdeal : Cert.KernelIdeal.Facts] [hReferenceIdeal : Cert.ReferenceIdeal.Facts] [hPre_addresses_and_words : Cert.Pre_addresses_and_words.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_addresses_and_words m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_addresses : Cert.Pre_addresses.Facts) (hPre_addresses_and_words : Cert.Pre_addresses_and_words.Facts),
    quiescent_Kernel (hKernel := hKernel) (hPre_addresses := hPre_addresses)
    ∧ quiescent_KernelIdeal (hKernelIdeal := hKernelIdeal) (hPre_addresses := hPre_addresses)
    ∧ quiescent_KernelIdeal_pre_addresses_and_words (hKernelIdeal := hKernelIdeal) (hPre_addresses_and_words := hPre_addresses_and_words)
    ∧ quiescent_ReferenceIdeal (hReferenceIdeal := hReferenceIdeal)
    ∧ quiescent_ReferenceIdeal_pre_addresses_and_words (hReferenceIdeal := hReferenceIdeal) (hPre_addresses_and_words := hPre_addresses_and_words)
    ∧ preserves_Kernel_KernelIdeal
    ∧ algebraic_KernelIdeal_ReferenceIdeal_pre_addresses_and_words (hKernelIdeal := hKernelIdeal) (hReferenceIdeal := hReferenceIdeal) (hPre_addresses_and_words := hPre_addresses_and_words)
-- ==== Pre_addresses.lean ====
abbrev S256 : Shape := ⟨1, ![256]⟩
abbrev S65536 : Shape := ⟨1, ![65536]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256 32) (main_arg1 : IVec S256 32) (main_arg2 : IVec S256 32) (main_arg3 : FVec F S256 .f32) (main_arg4 : FVec F S65536 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 65536#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_c_2 : IVec S_ 32 := constantI S_ 32 0#32
  let main_v6 : IVec S256 32 := broadcastInDim S256 ![] bcast_S_S256 main_c_2
  let main_v7 : IVec S256 1 := cmpi .sge main_arg1 main_v6
  let main_c_3 : IVec S_ 32 := constantI S_ 32 65536#32
  let main_v8 : IVec S256 32 := broadcastInDim S256 ![] bcast_S_S256 main_c_3
  let main_v9 : IVec S256 1 := cmpi .slt main_arg1 main_v8
  let main_v10 : IVec S256 1 := andi main_v7 main_v9
  let main_c_4 : IVec S_ 1 := constantI S_ 1 1#1
  let main_v11 : IVec S_ 1 := (fun x v => Host.reduce IntOp.andi x v reducesTo_S256_S_d0 h_S_) main_v10 main_c_4
  let main_v12 : IVec S_ 1 := andi main_v5 main_v11
  main_v12
-- ==== Pre_addresses_and_words.lean ====
abbrev S256 : Shape := ⟨1, ![256]⟩
abbrev S65536 : Shape := ⟨1, ![65536]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v12 main_v16
  main_v17

def fn {F : FTy → Type} [FloatOps F] (main_arg0 : IVec S256 32) (main_arg1 : IVec S256 32) (main_arg2 : IVec S256 32) (main_arg3 : FVec F S256 .f32) (main_arg4 : FVec F S65536 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 65536#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_c_2 : IVec S_ 32 := constantI S_ 32 0#32
  let main_v6 : IVec S256 32 := broadcastInDim S256 ![] bcast_S_S256 main_c_2
  let main_v7 : IVec S256 1 := cmpi .sge main_arg1 main_v6
  let main_c_3 : IVec S_ 32 := constantI S_ 32 65536#32
  let main_v8 : IVec S256 32 := broadcastInDim S256 ![] bcast_S_S256 main_c_3
  let main_v9 : IVec S256 1 := cmpi .slt main_arg1 main_v8
  let main_v10 : IVec S256 1 := andi main_v7 main_v9
  let main_c_4 : IVec S_ 1 := constantI S_ 1 1#1
  let main_v11 : IVec S_ 1 := (fun x v => Host.reduce IntOp.andi x v reducesTo_S256_S_d0 h_S_) main_v10 main_c_4
  let main_v12 : IVec S_ 1 := andi main_v5 main_v11
  let main_v13 : FVec F S65536 .f32 := Host.absf main_arg4
  let main_cst : FVec F S_ .f32 := constant S_ .f32 0x53000000#32
  let main_v14 : FVec F S65536 .f32 := broadcastInDim S65536 ![] bcast_S_S65536 main_cst
  let main_v15 : IVec S65536 1 := cmpf .olt main_v13 main_v14
  let main_c_5 : IVec S_ 1 := constantI S_ 1 1#1
  fn_part1 (F := F) main_v12 main_v15 main_c_5
-- ==== Kernel.lean ====
abbrev S256 : Shape := ⟨1, ![256]⟩
abbrev S65536 : Shape := ⟨1, ![65536]⟩
abbrev S16 : Shape := ⟨1, ![16]⟩
abbrev S_ : Shape := ⟨0, ![]⟩
abbrev S1x65536 : Shape := ⟨2, ![1, 65536]⟩
abbrev S256x1 : Shape := ⟨2, ![256, 1]⟩
abbrev S256x65536 : Shape := ⟨2, ![256, 65536]⟩
abbrev S64x1 : Shape := ⟨2, ![64, 1]⟩
abbrev S64x65536 : Shape := ⟨2, ![64, 65536]⟩

abbrev nBuf : Table → Nat
  | .hbm => 10
  | .local .tc .vmem => 7
  | .local .scVector .vmem => 5
  | _ => 0

abbrev bufTy : (tb : Table) → Fin (nBuf tb) → BufTy
  | .hbm, ⟨0, _⟩ => ⟨S256, .i32⟩
  | .hbm, ⟨1, _⟩ => ⟨S256, .i32⟩
  | .hbm, ⟨2, _⟩ => ⟨S256, .i32⟩
  | .hbm, ⟨3, _⟩ => ⟨S256, .f32⟩
  | .hbm, ⟨4, _⟩ => ⟨S65536, .f32⟩
  | .hbm, ⟨5, _⟩ => ⟨S256, .f32⟩
  | .hbm, ⟨6, _⟩ => ⟨S1x65536, .f32⟩
  | .hbm, ⟨7, _⟩ => ⟨S256x1, .i32⟩
  | .hbm, ⟨8, _⟩ => ⟨S256x1, .f32⟩
  | .hbm, ⟨9, _⟩ => ⟨S256x65536, .f32⟩
  | .local .tc .vmem, ⟨0, _⟩ => ⟨S1x65536, .f32⟩
  | .local .tc .vmem, ⟨1, _⟩ => ⟨S64x1, .i32⟩
  | .local .tc .vmem, ⟨2, _⟩ => ⟨S64x1, .i32⟩
  | .local .tc .vmem, ⟨3, _⟩ => ⟨S64x1, .f32⟩
  | .local .tc .vmem, ⟨4, _⟩ => ⟨S64x1, .f32⟩
  | .local .tc .vmem, ⟨5, _⟩ => ⟨S64x65536, .f32⟩
  | .local .tc .vmem, ⟨6, _⟩ => ⟨S64x65536, .f32⟩
  | .local .scVector .vmem, ⟨0, _⟩ => ⟨S16, .i32⟩
  | .local .scVector .vmem, ⟨1, _⟩ => ⟨S16, .i32⟩
  | .local .scVector .vmem, ⟨2, _⟩ => ⟨S16, .f32⟩
  | .local .scVector .vmem, ⟨3, _⟩ => ⟨S16, .f32⟩
  | .local .scVector .vmem, ⟨4, _⟩ => ⟨S16, .f32⟩
  | _, _ => ⟨S256, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0_scv : Ref sig .scVector := ⟨.hbm, 0, rfl⟩
abbrev main_arg1_scv : Ref sig .scVector := ⟨.hbm, 1, rfl⟩
abbrev main_arg4_scv : Ref sig .scVector := ⟨.hbm, 4, rfl⟩
abbrev main_v0_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c16_i32_0 : BitVec 32 := 16#32
  let v5 : BitVec 32 := Scalar.muli v1 c16_i32_0
  ![v5.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x65536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256 : Shape := ⟨1, ![256]⟩
abbrev S65536 : Shape := ⟨1, ![65536]⟩
abbrev S256x1 : Shape := ⟨2, ![256, 1]⟩
abbrev S16 : Shape := ⟨1, ![16]⟩
abbrev S1x16 : Shape := ⟨2, ![1, 16]⟩
abbrev S256x16 : Shape := ⟨2, ![256, 16]⟩
abbrev S_ : Shape := ⟨0, ![]⟩
abbrev S65536x1 : Shape := ⟨2, ![65536, 1]⟩
abbrev S65536x16 : Shape := ⟨2, ![65536, 16]⟩
abbrev S1x65536 : Shape := ⟨2, ![1, 65536]⟩
abbrev S256x65536 : Shape := ⟨2, ![256, 65536]⟩

abbrev nBuf : Space → Nat
  | .hbm => 57
  | .vmem => 6
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S256, .i32⟩
  | .hbm, ⟨3, _⟩ => ⟨S256, .f32⟩
  | .hbm, ⟨4, _⟩ => ⟨S65536, .f32⟩
  | .hbm, ⟨5, _⟩ => ⟨S256x1, .i32⟩
  | .hbm, ⟨6, _⟩ => ⟨S16, .i32⟩
  | .hbm, ⟨7, _⟩ => ⟨S1x16, .i32⟩
  | .hbm, ⟨8, _⟩ => ⟨S256x16, .i32⟩
  | .hbm, ⟨9, _⟩ => ⟨S256x16, .i32⟩
  | .hbm, ⟨10, _⟩ => ⟨S256x16, .i32⟩
  | .hbm, ⟨11, _⟩ => ⟨S_, .i32⟩
  | .hbm, ⟨12, _⟩ => ⟨S256x16, .i32⟩
  | .hbm, ⟨13, _⟩ => ⟨S256x16, .i32⟩
  | .hbm, ⟨14, _⟩ => ⟨S256x16, .f32⟩
  | .hbm, ⟨15, _⟩ => ⟨S_, .f32⟩
  | .hbm, ⟨16, _⟩ => ⟨S256x16, .f32⟩
  | .hbm, ⟨17, _⟩ => ⟨S256x16, .f32⟩
  | .hbm, ⟨18, _⟩ => ⟨S_, .f32⟩
  | .hbm, ⟨19, _⟩ => ⟨S256x16, .f32⟩
  | .hbm, ⟨20, _⟩ => ⟨S256x16, .f32⟩
  | .hbm, ⟨21, _⟩ => ⟨S256x1, .i32⟩
  | .hbm, ⟨22, _⟩ => ⟨S16, .i32⟩
  | .hbm, ⟨23, _⟩ => ⟨S1x16, .i32⟩
  | .hbm, ⟨24, _⟩ => ⟨S256x16, .i32⟩
  | .hbm, ⟨25, _⟩ => ⟨S256x16, .i32⟩
  | .hbm, ⟨26, _⟩ => ⟨S256x16, .i32⟩
  | .hbm, ⟨27, _⟩ => ⟨S_, .i32⟩
  | .hbm, ⟨28, _⟩ => ⟨S256x16, .i32⟩
  | .hbm, ⟨29, _⟩ => ⟨S256x16, .i32⟩
  | .hbm, ⟨30, _⟩ => ⟨S256x16, .f32⟩
  | .hbm, ⟨31, _⟩ => ⟨S_, .f32⟩
  | .hbm, ⟨32, _⟩ => ⟨S256x16, .f32⟩
  | .hbm, ⟨33, _⟩ => ⟨S256x16, .f32⟩
  | .hbm, ⟨34, _⟩ => ⟨S_, .f32⟩
  | .hbm, ⟨35, _⟩ => ⟨S256x16, .f32⟩
  | .hbm, ⟨36, _⟩ => ⟨S256x16, .f32⟩
  | .hbm, ⟨37, _⟩ => ⟨S65536, .i32⟩
  | .hbm, ⟨38, _⟩ => ⟨S65536x1, .i32⟩
  | .hbm, ⟨39, _⟩ => ⟨S16, .i32⟩
  | .hbm, ⟨40, _⟩ => ⟨S1x16, .i32⟩
  | .hbm, ⟨41, _⟩ => ⟨S65536x16, .i32⟩
  | .hbm, ⟨42, _⟩ => ⟨S65536x16, .i32⟩
  | .hbm, ⟨43, _⟩ => ⟨S65536x16, .i32⟩
  | .hbm, ⟨44, _⟩ => ⟨S_, .i32⟩
  | .hbm, ⟨45, _⟩ => ⟨S65536x16, .i32⟩
  | .hbm, ⟨46, _⟩ => ⟨S65536x16, .i32⟩
  | .hbm, ⟨47, _⟩ => ⟨S65536x16, .f32⟩
  | .hbm, ⟨48, _⟩ => ⟨S_, .f32⟩
  | .hbm, ⟨49, _⟩ => ⟨S65536x16, .f32⟩
  | .hbm, ⟨50, _⟩ => ⟨S65536x16, .f32⟩
  | .hbm, ⟨51, _⟩ => ⟨S_, .f32⟩
  | .hbm, ⟨52, _⟩ => ⟨S65536x16, .f32⟩
  | .hbm, ⟨53, _⟩ => ⟨S65536x16, .f32⟩
  | .hbm, ⟨54, _⟩ => ⟨S256x1, .f32⟩
  | .hbm, ⟨55, _⟩ => ⟨S1x65536, .f32⟩
  | .hbm, ⟨56, _⟩ => ⟨S256x65536, .f32⟩
  | .local _ .vmem, ⟨0, _⟩ => ⟨S256x16, .f32⟩
  | .local _ .vmem, ⟨1, _⟩ => ⟨S256x16, .f32⟩
  | .local _ .vmem, ⟨2, _⟩ => ⟨S65536x16, .f32⟩
  | .local _ .vmem, ⟨3, _⟩ => ⟨S256x1, .f32⟩
  | .local _ .vmem, ⟨4, _⟩ => ⟨S1x65536, .f32⟩
  | .local _ .vmem, ⟨5, _⟩ => ⟨S256x65536, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "beta" => some ⊤
  | _ => none

abbrev grid0 : Pipeline.Grid := .none

abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x65536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x65536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Setup.lean ====
/- The program as the launch theorem sees it, its resource algebra, its arrays, and the values they hold: what a
   lane of the gather computes (`lane`), the 256 results (`resOf`), the 256 rows written out (`outOf`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Adequacy
public import Idealize.ShloMosaic.Init
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.SparseCore.Threads
public import Idealize.ShloMosaic.Lib.ShareLeaves
public import Idealize.ShloMosaic.Lib.ValueIdxCore
public import Idealize.ShloMosaic.Lib.Pointwise
public import Idealize.ShloMosaic.Lib.Tactic
public import Idealize.ShloMosaic.Lib.Pipeline.Kit

@[expose] public section

noncomputable section

namespace Cert.Proof.Vm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem tasks16 : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_lands : (EP : Emb UP 𝕄).LandsIn (upEmb : UEmb _ 𝕄) := by unfold EP; infer_instance

/-! ## The arrays -/

abbrev pcLoc (d : Dev nD) : Loc nD τ sig := (SparseCore.T d).loc main_arg0
abbrev spLoc (d : Dev nD) : Loc nD τ sig := (SparseCore.T d).loc main_arg1
abbrev bpLoc (d : Dev nD) : Loc nD τ sig := (SparseCore.T d).loc main_arg2
abbrev axLoc (d : Dev nD) : Loc nD τ sig := (SparseCore.T d).loc main_arg3
abbrev meLoc (d : Dev nD) : Loc nD τ sig := (SparseCore.T d).loc main_arg4
abbrev reLoc (d : Dev nD) : Loc nD τ sig := (SparseCore.T d).loc main_v0

variable [FloatOps F]

/-! ## The values -/

/-- The word of the memory an address names. -/
def wordAt (me : S65536.Idx → F .f32) (w : BitVec 32) : F .f32 := me (ix1 ⟨w.toNat % 65536, Nat.mod_lt _ (by decide)⟩)

/-- What one lane computes of its instruction word and its stack word. -/
def lane (x y : F .f32) : F .f32 := k0_pay1 (fun _ => x) (fun _ => y) (ix1 0)

/-- The kernel's arithmetic is lanewise. -/
theorem k0_pay1_apply (x y : Vec F S16 .f32) (i : S16.Idx) : k0_pay1 x y i = lane (x i) (y i) := by
  unfold lane k0_pay1
  simp only [shapeCast_id]
  rfl

/-- The 256 results. -/
def resOf (pc sp : S256.Idx → BitVec 32) (me : S65536.Idx → F .f32) : S256.Idx → F .f32 :=
  fun j => lane (wordAt me (pc j)) (wordAt me (sp j))

/-- The 256 rows: the memory, with a row's result at the row's stack address. -/
def outOf (pc sp : S256.Idx → BitVec 32) (me : S65536.Idx → F .f32) : S256x65536.Idx → F .f32 :=
  fun j => if BitVec.ofNat 32 (j 1).val = sp (ix1 (j 0)) then resOf pc sp me (ix1 (j 0)) else me (ix1 (j 1))

/-- The addresses name words of the memory. -/
def AddrOK (pc sp : S256.Idx → BitVec 32) : Prop := ∀ j, (pc j).toNat < 65536 ∧ (sp j).toNat < 65536

end Cert.Proof.Vm

end
-- ==== Proof.Tile.lean ====
/- One task of the gather kernel on its vector subcore: it fetches its sixteen pairs of addresses, gathers the two
   words each pair names, and writes its sixteen results. -/
module

public import proofs.«01_k».proof.Proof.Setup
public import Idealize.ShloMosaic.Lib.VecWindow

@[expose] public section

noncomputable section

namespace Cert.Proof.Vm

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's arrays and scratch -/

abbrev pcV : Memref sig .scVector .hbm S256 .i32 := Memref.whole main_arg0_scv
abbrev spV : Memref sig .scVector .hbm S256 .i32 := Memref.whole main_arg1_scv
abbrev meV : Memref sig .scVector .hbm S65536 .f32 := Memref.whole main_arg4_scv
abbrev reV : Memref sig .scVector .hbm S256 .f32 := Memref.whole main_v0_scv
abbrev ipV : Memref sig .scVector .vmem S16 .i32 := Memref.whole cc0_scratch0
abbrev isV : Memref sig .scVector .vmem S16 .i32 := Memref.whole cc0_scratch1
abbrev gpV : Memref sig .scVector .vmem S16 .f32 := Memref.whole cc0_scratch2
abbrev gsV : Memref sig .scVector .vmem S16 .f32 := Memref.whole cc0_scratch3
abbrev orV : Memref sig .scVector .vmem S16 .f32 := Memref.whole cc0_scratch4

/-- Sixteen blocks of sixteen. -/
theorem div16 : 16 ∣ S256.size 0 := ⟨16, rfl⟩
abbrev blk (i : Fin 16) : Rect S256 := Rect.part (s := S256) (a₀ := 0) div16 i
abbrev blkSet (i : Fin 16) : Finset S256.Idx := (blk i).set
/-- Task `i`'s share of the memory. -/
abbrev meSh (i : Fin 16) : PosShare TreeShare := ShareLeaves.leaf 4 fullShare i

section Tile

variable (d : Dev nD) (L : grid0.Coords)

abbrev cV (L : grid0.Coords) : Fin τ.nSC := (L 0).castLE hcore0
abbrev jV (L : grid0.Coords) : Fin τ.nSub := (L 1).castLE hsub0
theorem bound16 : grid0.bound 1 = 16 := rfl
abbrev jL (L : grid0.Coords) : Fin 16 := Fin.cast bound16 (L 1)

/-- Every subcore of the grid runs the body. -/
theorem cond1 : k0_cond1 L = 1#1 := by
  have h0 : (L 0).val = 0 := Nat.lt_one_iff.mp (show (L 0).val < 1 from (L 0).isLt)
  have h1 : ∀ j : Fin 16, Scalar.cmpi .ne (Scalar.extui (Scalar.cmpi .slt (Scalar.addi (Scalar.muli (BitVec.ofNat 32 j.val) 1#32) (BitVec.ofNat 32 0)) 16#32)) 0#32 = 1#1 := by decide
  have := h1 (jL L)
  unfold k0_cond1
  rw [h0]
  exact this

abbrev blkK (L : grid0.Coords) : Rect S256 := Rect.unit (s := S256) (k0_off1 L) S16.size (k0_off1_inb L (cond1 L))
abbrev pcK (L : grid0.Coords) : Memref sig .scVector .hbm S16 .i32 := (pcV).slice (blkK L) (fun _ => rfl)
abbrev spK (L : grid0.Coords) : Memref sig .scVector .hbm S16 .i32 := (spV).slice (blkK L) (fun _ => rfl)
abbrev reK (L : grid0.Coords) : Memref sig .scVector .hbm S16 .f32 := (reV).slice (blkK L) (fun _ => rfl)

theorem blkK_eq : blkK L = blk (jL L) := by
  have h0 : (L 0).val = 0 := Nat.lt_one_iff.mp (show (L 0).val < 1 from (L 0).isLt)
  unfold blkK blk Rect.part Rect.block
  congr 1 <;> funext a
  · rw [k0_off1_eq, h0]
    match a with
    | 0 => simp [Shape.partIx, Shape.partSize]; omega
  · match a with
    | 0 => simp [Shape.partSize]

theorem set_pcK : (pcK L).view.set = blkSet (jL L) := by
  show ((View.whole (main_arg0_scv : Ref sig .scVector)).slice (blkK L)).set = _
  rw [View.set_slice_whole, blkK_eq]
theorem set_spK : (spK L).view.set = blkSet (jL L) := by
  show ((View.whole (main_arg1_scv : Ref sig .scVector)).slice (blkK L)).set = _
  rw [View.set_slice_whole, blkK_eq]
theorem set_reK : (reK L).view.set = blkSet (jL L) := by
  show ((View.whole (main_v0_scv : Ref sig .scVector)).slice (blkK L)).set = _
  rw [View.set_slice_whole, blkK_eq]

theorem pts_pcK (f : Buf (Elt F) (pcLoc d)) :
    ((pcK L).view.loc (V d (cV L) (jV L)) ↦[(pcK L).view.set]{fullShare} f : sProp 𝕄) = pcLoc d ↦[blkSet (jL L)]{fullShare} f := by
  rw [set_pcK]
theorem pts_spK (f : Buf (Elt F) (spLoc d)) :
    ((spK L).view.loc (V d (cV L) (jV L)) ↦[(spK L).view.set]{fullShare} f : sProp 𝕄) = spLoc d ↦[blkSet (jL L)]{fullShare} f := by
  rw [set_spK]
theorem pts_reK (f : Buf (Elt F) (reLoc d)) :
    ((reK L).view.loc (V d (cV L) (jV L)) ↦[(reK L).view.set]{fullShare} f : sProp 𝕄) = reLoc d ↦[blkSet (jL L)]{fullShare} f := by
  rw [set_reK]

abbrev cell (d : Dev nD) (L : grid0.Coords) (s : DmaSem sig) : GSem nD τ sig := (V d (cV L) (jV L), .dma s)

theorem cell_ne {a b : DmaSem sig} (h : (SemLoc.dma a : SemLoc sig) ≠ .dma b) : cell d L a ≠ cell d L b := fun e => h (congrArg Prod.snd e)

theorem cell_mem {a : DmaSem sig} (h : (SemLoc.dma a : SemLoc sig).isScoped .scVector = true) : cell d L a ∈ ownCells (V d (cV L) (jV L)) :=
  (mem_ownCells (g := cell d L a)).mpr ⟨rfl, h⟩

/-- The cells of the subcore that no copy of the kernel uses. -/
abbrev restCells (d : Dev nD) (L : grid0.Coords) : Finset (GSem nD τ sig) :=
  (((((ownCells (V d (cV L) (jV L))).erase (cell d L cc0_scratch5.sem)).erase (cell d L cc0_scratch6.sem)).erase
    (cell d L cc0_scratch7.sem)).erase (cell d L cc0_scratch8.sem)).erase (cell d L cc0_scoped0.sem)

theorem ownSems0_V :
    (ownSems0 (V d (cV L) (jV L)) : sProp 𝕄)
      = iprop(semVal (cell d L cc0_scratch5.sem) 0 ∗ semVal (cell d L cc0_scratch6.sem) 0 ∗ semVal (cell d L cc0_scratch7.sem) 0
          ∗ semVal (cell d L cc0_scratch8.sem) 0 ∗ semVal (cell d L cc0_scoped0.sem) 0 ∗ bigSep (restCells d L) fun g => semVal g 0) := by
  unfold SparseCore.Cfg.ownSems0
  rw [SparseCore.bigSep_erase' (cell_mem d L (a := cc0_scratch5.sem) (by decide)),
    SparseCore.bigSep_erase' (Finset.mem_erase.mpr ⟨cell_ne d L (by decide), cell_mem d L (a := cc0_scratch6.sem) (by decide)⟩),
    SparseCore.bigSep_erase' (Finset.mem_erase.mpr ⟨cell_ne d L (by decide), Finset.mem_erase.mpr ⟨cell_ne d L (by decide),
      cell_mem d L (a := cc0_scratch7.sem) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (a := cc0_scratch8.sem) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L (a := cc0_scoped0.sem) (by decide)⟩⟩⟩⟩)]

abbrev bufOf (L : grid0.Coords) (b : Ref sig .scVector) : DevRef τ sig := (Proc.scVector (cV L) (jV L)).devRef b

theorem bufOf_ne {a b : Ref sig .scVector} (h : a ≠ b) : bufOf L a ≠ bufOf L b := fun e => h (Proc.devRef_injective _ e)

theorem bufOf_mem {b : Ref sig .scVector} (h : (bufOf L b).owner = .proc (Proc.scVector (cV L) (jV L))) : bufOf L b ∈ ownRefs (τ := τ) (.scVector (cV L) (jV L)) :=
  SparseCore.Cfg.mem_ownRefs_of_owner (p := Proc.scVector (cV L) (jV L)) (b := bufOf L b) h

/-- The subcore's buffers that the kernel does not use. -/
abbrev restBufs (L : grid0.Coords) : Finset (DevRef τ sig) :=
  (((((ownRefs (τ := τ) (.scVector (cV L) (jV L))).erase (bufOf L cc0_scratch0)).erase (bufOf L cc0_scratch1)).erase
    (bufOf L cc0_scratch2)).erase (bufOf L cc0_scratch3)).erase (bufOf L cc0_scratch4)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restBufs L) fun b => iprop(∃ f, ((d, b) : Loc nD τ sig) ↦{fullShare} f)) := by
  unfold SparseCore.Cfg.ownBufs
  refine (SparseCore.bigSep_erase' (bufOf_mem L (b := cc0_scratch0) rfl)).trans ?_
  rw [SparseCore.bigSep_erase' (Finset.mem_erase.mpr ⟨bufOf_ne L (by decide), bufOf_mem L (b := cc0_scratch1) rfl⟩),
    SparseCore.bigSep_erase' (Finset.mem_erase.mpr ⟨bufOf_ne L (by decide), Finset.mem_erase.mpr ⟨bufOf_ne L (by decide),
      bufOf_mem L (b := cc0_scratch2) rfl⟩⟩),
    SparseCore.bigSep_erase' (Finset.mem_erase.mpr ⟨bufOf_ne L (by decide), Finset.mem_erase.mpr ⟨bufOf_ne L (by decide),
      Finset.mem_erase.mpr ⟨bufOf_ne L (by decide), bufOf_mem L (b := cc0_scratch3) rfl⟩⟩⟩),
    SparseCore.bigSep_erase' (Finset.mem_erase.mpr ⟨bufOf_ne L (by decide), Finset.mem_erase.mpr ⟨bufOf_ne L (by decide),
      Finset.mem_erase.mpr ⟨bufOf_ne L (by decide), Finset.mem_erase.mpr ⟨bufOf_ne L (by decide), bufOf_mem L (b := cc0_scratch4) rfl⟩⟩⟩⟩)]

variable [FloatOps F] (m : (ℓ : Loc nD τ sig) → Buf (Elt F) ℓ)

/-- The results device `d`'s arguments give. -/
abbrev res (d : Dev nD) : Buf (Elt F) (reLoc d) := resOf (m (pcLoc d)) (m (spLoc d)) (m (meLoc d))

abbrev MemOK : Prop := ∀ d : Dev nD, AddrOK (m (pcLoc d)) (m (spLoc d))

abbrev pcBlk (d : Dev nD) (i : Fin 16) : sProp 𝕄 := pcLoc d ↦[blkSet i]{fullShare} m (pcLoc d)
abbrev spBlk (d : Dev nD) (i : Fin 16) : sProp 𝕄 := spLoc d ↦[blkSet i]{fullShare} m (spLoc d)
abbrev mePart (d : Dev nD) (i : Fin 16) : sProp 𝕄 := meLoc d ↦{meSh i} m (meLoc d)
abbrev reBlk (d : Dev nD) (i : Fin 16) (f : Buf (Elt F) (reLoc d)) : sProp 𝕄 := reLoc d ↦[blkSet i]{fullShare} f

/-- What the fetch of `pc` landed is the block of `pc`; -/
theorem fetched_pc (f : Buf (Elt F) ((V d (cV L) (jV L)).loc cc0_scratch0)) (pay : S16.Idx → Elt F .i32)
    (hpay : pay = (pcK L).view.read (Elt F) (m (pcLoc d))) (x : S16.Idx) :
    (ipV).view.read (Elt F) (View.write (Elt F) (ipV).view f pay Finset.univ) x = m (pcLoc d) ((blkK L).emb x) := by
  subst hpay
  rw [View.write_whole_univ]
  simp only [Memref.view_whole, View.read_whole]
  exact (View.read_apply _ _).trans (cast_eq _ _)
/-- what that of `sp` landed is the block of `sp`. -/
theorem fetched_sp (f : Buf (Elt F) ((V d (cV L) (jV L)).loc cc0_scratch1)) (pay : S16.Idx → Elt F .i32)
    (hpay : pay = (spK L).view.read (Elt F) (m (spLoc d))) (x : S16.Idx) :
    (isV).view.read (Elt F) (View.write (Elt F) (isV).view f pay Finset.univ) x = m (spLoc d) ((blkK L).emb x) := by
  subst hpay
  rw [View.write_whole_univ]
  simp only [Memref.view_whole, View.read_whole]
  exact (View.read_apply _ _).trans (cast_eq _ _)

/-- The gather of the memory's words by a list of addresses in range. -/
theorem gathered (me : S65536.Idx → F .f32) (idx : S16.Idx → BitVec 32) (hn : S16.numel = S16.size gathers_S65536_S16.axis')
    (hin : ∀ x, (idx x).toNat < S65536.size gathers_S65536_S16.axis) (x : S16.Idx) :
    SparseCore.gatherPayload (F := F) (e := .f32) gathers_S65536_S16
      (View.read (Elt F) ((meV).slice (Rect.unit ![0] S65536.size inb_S65536_S65536_0) (fun _ => rfl)).view me) (SparseCore.rows (F := F) idx hn hin) x
      = wordAt me (idx x) := by
  have hi : S16.rowMajor.symm ((x gathers_S65536_S16.axis').cast hn.symm) = x := by
    rw [Equiv.symm_apply_eq]
    exact Fin.ext (Shape.rowMajor_val_one x).symm
  have hlt : (idx x).toNat < 65536 := hin x
  have e : ∀ j, View.read (Elt F) ((meV).slice (Rect.unit ![0] S65536.size inb_S65536_S65536_0) (fun _ => rfl)).view me j
      = me ((Rect.unit (s := S65536) ![0] S65536.size inb_S65536_S65536_0).emb j) := fun j => (View.read_apply _ _).trans (cast_eq _ _)
  unfold SparseCore.gatherPayload wordAt
  refine (e _).trans (congrArg me ?_)
  rw [Rect.emb_unit_full]
  funext a
  obtain rfl : a = gathers_S65536_S16.axis := Subsingleton.elim (α := Fin 1) _ _
  rw [Shape.Gathers.idx_axis]
  unfold SparseCore.rows
  refine Fin.ext ?_
  show (idx (S16.rowMajor.symm ((x gathers_S65536_S16.axis').cast hn.symm))).toNat = (idx x).toNat % 65536
  rw [hi, Nat.mod_eq_of_lt hlt]

theorem wholeInb : ∀ a, (fun _ : Fin S16.rank => 0) a + S16.size a ≤ S16.size a := fun _ => Nat.le_of_eq (Nat.zero_add _)

/-- Block `L 1` of the results, written with the lanes' results, is the block of `res`. -/
theorem reBlk_value (pay : S16.Idx → F .f32)
    (hpay : ∀ x, pay x = lane (wordAt (m (meLoc d)) (m (pcLoc d) ((blkK L).emb x))) (wordAt (m (meLoc d)) (m (spLoc d) ((blkK L).emb x)))) :
    ∀ i ∈ blkSet (jL L), (reK L).view.writes (Elt F) (m (reLoc d)) [⟨Rect.whole S16, pay⟩] i = res m d i := by
  intro i hi
  rw [show blkSet (jL L) = (blkK L).set by rw [blkK_eq], ← Rect.map_emb_univ, Finset.mem_map] at hi
  obtain ⟨x, -, rfl⟩ := hi
  have h := View.read_writes_full (Val := Elt F) (reK L).view (m (reLoc d)) (off := fun _ => 0) wholeInb pay []
  have hx := congrFun h x
  rw [View.read_apply] at hx
  exact ((cast_eq _ _).symm.trans hx).trans (hpay x)

set_option maxHeartbeats 4000000 in
theorem tile_body (hF : (K (F := F)).Facts) (hm : MemOK m) (O : CellTallies nD τ sig (HIx 1)) (W : Waits sig (HIx 1)) (hO : ∀ g, O g none = 0) :
    iprop(levAts (K (F := F)).L (K (F := F)).lev ∗ emp
        ∗ (pcBlk m d (jL L) ∗ spBlk m d (jL L) ∗ mePart m d (jL L) ∗ reBlk d (jL L) (m (reLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L pcV (Memref.isWhole_whole _) spV (Memref.isWhole_whole _) meV (Memref.isWhole_whole _) reV (Memref.isWhole_whole _)
            ipV (Memref.isWhole_whole _) isV (Memref.isWhole_whole _) gpV (Memref.isWhole_whole _) gsV (Memref.isWhole_whole _) orV (Memref.isWhole_whole _)
            cc0_scratch5 cc0_scratch6 cc0_scratch7 cc0_scratch8 cc0_scoped0)
          fun _ => iprop((pcBlk m d (jL L) ∗ spBlk m d (jL L) ∗ mePart m d (jL L) ∗ reBlk d (jL L) (res m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [dif_pos (cond1 L)]
  rw [(K (F := F)).scopedBufs_V hF d (cV L) (jV L), SparseCore.Cfg.scopedSems0_V (Val := Elt F) d (cV L) (jV L), ownSems0_V, ownBufs_V]
  iintro ⟨#Hlv, -, ⟨Hp, Hs, Hm, Ho⟩, ⟨⟨%f0, H0⟩, ⟨%f1, H1⟩, ⟨%f2, H2⟩, ⟨%f3, H3⟩, ⟨%f4, H4⟩, Hbufs⟩, ⟨S5, S6, S7, S8, S9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_pcK (F := F) d L _).symm) $$ Hp
  ihave Hs' := (Entails.of_eq (pts_spK (F := F) d L _).symm) $$ Hs
  ihave Ho' := (Entails.of_eq (pts_reK (F := F) d L _).symm) $$ Ho
  ihave Hm2 := (pointsTo_share (PosShare.mem_left_op_right (meSh (jL L)))).1 $$ Hm
  icases Hm2 with ⟨Hma, Hmb⟩
  ihave Hma' := (Entails.of_eq (show (meLoc d ↦{(meSh (jL L)).left} m (meLoc d) : sProp 𝕄) = (meV).view.loc (V d (cV L) (jV L)) ↦{(meSh (jL L)).left} m (meLoc d) from rfl)) $$ Hma
  ihave Hmb' := (Entails.of_eq (show (meLoc d ↦{(meSh (jL L)).right} m (meLoc d) : sProp 𝕄) = (meV).view.loc (V d (cV L) (jV L)) ↦{(meSh (jL L)).right} m (meLoc d) from rfl)) $$ Hmb
  ihave H0' := (Entails.of_eq (show ((V d (cV L) (jV L)).loc cc0_scratch0 ↦{fullShare} f0 : sProp 𝕄) = (ipV).view.loc (V d (cV L) (jV L)) ↦{fullShare} f0 from rfl)) $$ H0
  ihave H1' := (Entails.of_eq (show ((V d (cV L) (jV L)).loc cc0_scratch1 ↦{fullShare} f1 : sProp 𝕄) = (isV).view.loc (V d (cV L) (jV L)) ↦{fullShare} f1 from rfl)) $$ H1
  ihave H2' := (Entails.of_eq (show ((V d (cV L) (jV L)).loc cc0_scratch2 ↦{fullShare} f2 : sProp 𝕄) = (gpV).view.loc (V d (cV L) (jV L)) ↦{fullShare} f2 from rfl)) $$ H2
  ihave H3' := (Entails.of_eq (show ((V d (cV L) (jV L)).loc cc0_scratch3 ↦{fullShare} f3 : sProp 𝕄) = (gsV).view.loc (V d (cV L) (jV L)) ↦{fullShare} f3 from rfl)) $$ H3
  ihave H4' := (Entails.of_eq (show ((V d (cV L) (jV L)).loc cc0_scratch4 ↦{fullShare} f4 : sProp 𝕄) = (orV).view.loc (V d (cV L) (jV L)) ↦{fullShare} f4 from rfl)) $$ H4
  sl_exec
  have hip : ∀ x, ((ipV).view.read (Elt F) (View.write (Elt F) (ipV).view f0 (tile_body.sl.dma0 d L m) Finset.univ) x).toNat < S65536.size gathers_S65536_S16.axis := fun x => lt_of_eq_of_lt (congrArg BitVec.toNat (fetched_pc d L m f0 (tile_body.sl.dma0 d L m) rfl x)) (hm d _).1
  have his : ∀ x, ((isV).view.read (Elt F) (View.write (Elt F) (isV).view f1 (tile_body.sl.dma0_1 d L m) Finset.univ) x).toNat < S65536.size gathers_S65536_S16.axis := fun x => lt_of_eq_of_lt (congrArg BitVec.toNat (fetched_sp d L m f1 (tile_body.sl.dma0_1 d L m) rfl x)) (hm d _).2
  sl_exec
  sl_step
  isplitl [Hp' Hs' Hma' Hmb' Ho']
  · isplitl [Hp']; · iapply (Entails.of_eq (pts_pcK (F := F) d L _)); iexact Hp'
    isplitl [Hs']; · iapply (Entails.of_eq (pts_spK (F := F) d L _)); iexact Hs'
    isplitl [Hma' Hmb']
    · iapply (pointsTo_share (PosShare.mem_left_op_right (meSh (jL L)))).2
      isplitl [Hma'] <;> iassumption
    ihave Ho2 := (Entails.of_eq (pts_reK (F := F) d L _)) $$ Ho'
    have hv : ∀ x, tile_body.sl.dma4 d L m f0 f1 f4 hip his x
        = lane (wordAt (m (meLoc d)) (m (pcLoc d) ((blkK L).emb x))) (wordAt (m (meLoc d)) (m (spLoc d) ((blkK L).emb x))) := by
      intro x
      show View.read (Elt F) orV.view (orV.view.writes (Elt F) f4 (tile_body.sl.H4'_1 d L m f0 f1 hip his)) x = _
      unfold tile_body.sl.H4'_1
      rw [View.read_writes_full, k0_pay1_apply]
      congr 1
      · refine (congrFun (View.readCov_full (Val := Elt F) gpV.view inb_S16_S16_0 wholeInb (tile_body.sl.gather0 d L m f0 hip) []) x).trans ?_
        refine (gathered (m (meLoc d)) _ _ hip x).trans ?_
        exact congrArg (wordAt (m (meLoc d))) (fetched_pc d L m f0 _ rfl x)
      · refine (congrFun (View.readCov_full (Val := Elt F) gsV.view inb_S16_S16_0 wholeInb (tile_body.sl.gather1 d L m f1 his) []) x).trans ?_
        refine (gathered (m (meLoc d)) _ _ his x).trans ?_
        exact congrArg (wordAt (m (meLoc d))) (fetched_sp d L m f1 _ rfl x)
    ihave Ho3 := (Entails.of_eq (pointsTo_congr (reBlk_value d L m (tile_body.sl.dma4 d L m f0 f1 f4 hip his) hv))) $$ Ho2
    iexact Ho3
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [S5 S6 S7 S8 S9 Hsems]
  · isplitl [S5]; · iexact S5
    isplitl [S6]; · iexact S6
    isplitl [S7]; · iexact S7
    isplitl [S8]; · iexact S8
    isplitl [S9]; · iexact S9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Vm

end
-- ==== Proof.Launch.lean ====
/- The SparseCore call as its launch sees it: what the handshakes carry to the sixteen tasks and back, each task's
   obligation from `tile_body`, the arrays cut into blocks and shares and put together again, and the launch's ghost
   state — the handshakes' rounds beside the rounds of the TensorCore's pipeline. -/
module

public import proofs.«01_k».proof.Proof.Tile
public import Idealize.ShloMosaic.Lib.Pipeline.Regions

@[expose] public section

noncomputable section

namespace Cert.Proof.Vm

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The addresses and the memory as launched, and the results at `f`: what the call takes and gives back. -/
abbrev callPts (d : Dev nD) (f : Buf (Elt F) (reLoc d)) : sProp 𝕄 :=
  iprop((pcLoc d ↦{fullShare} m (pcLoc d)) ∗ (spLoc d ↦{fullShare} m (spLoc d)) ∗ (meLoc d ↦{fullShare} m (meLoc d)) ∗ reLoc d ↦{fullShare} f)
/-- Task `i`'s part of them. -/
abbrev taskPts (d : Dev nD) (i : Fin 16) (f : Buf (Elt F) (reLoc d)) : sProp 𝕄 :=
  iprop(pcBlk m d i ∗ spBlk m d i ∗ mePart m d i ∗ reBlk d i f)

/-- The call and its tasks start from the launch's contents and end with the results written. -/
def P : (K (F := F)).Pay (nD := nD) (Val := Elt F) (Name := ℕ) (U := UU) where
  st := fun q d _ => match q with | 0 => callPts m d (m (reLoc d))
  dn := fun q d _ => match q with | 0 => callPts m d (res m d)
  go := fun q d _ i => match q with | 0 => taskPts m d (Fin.cast tasks16 i) (m (reLoc d))
  td := fun q d _ i => match q with | 0 => taskPts m d (Fin.cast tasks16 i) (res m d)
  x := fun _ _ => iprop(emp)

instance callPts_storable (d : Dev nD) (f : Buf (Elt F) (reLoc d)) : BI.Storable (upEmb : UEmb _ 𝕄) (callPts m d f) := inferInstance
instance taskPts_storable (d : Dev nD) (i : Fin 16) (f : Buf (Elt F) (reLoc d)) : BI.Storable (upEmb : UEmb _ 𝕄) (taskPts m d i f) := inferInstance

instance P_carried : (P (F := F) m).IsStorable where
  st q d _ := match q with | 0 => callPts_storable m d _
  dn q d _ := match q with | 0 => callPts_storable m d _
  go q d _ i := match q with | 0 => taskPts_storable m d (Fin.cast tasks16 i) _
  td q d _ i := match q with | 0 => taskPts_storable m d (Fin.cast tasks16 i) _

/-! ## The tasks' obligation -/

/-- The grid point of a core and a subcore. -/
def pointOf (c : Fin (grid0.bound 0)) (s : Fin (grid0.bound 1)) : grid0.Coords :=
  fun | 0 => c | 1 => s | ⟨_ + 2, h⟩ => absurd h (Nat.not_lt.2 (Nat.le_add_left _ _))

theorem subcore_runs (c : Fin τ.nSC) (s : Fin τ.nSub) :
    defs₀ (F := F) (.scVector c s) 0 ()
      = SparseCore.onTile hcore0 hsub0 (fun c s => cc0_k (pointOf c s)
          pcV (Memref.isWhole_whole _) spV (Memref.isWhole_whole _) meV (Memref.isWhole_whole _) reV (Memref.isWhole_whole _)
          ipV (Memref.isWhole_whole _) isV (Memref.isWhole_whole _) gpV (Memref.isWhole_whole _) gsV (Memref.isWhole_whole _)
          orV (Memref.isWhole_whole _) cc0_scratch5 cc0_scratch6 cc0_scratch7 cc0_scratch8 cc0_scoped0) ⟨⟩ c s := rfl

/-- A task's end, its recorded waits as the launch bounds them. -/
theorem task_end {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right Or.inl
  iexact HO

set_option maxRecDepth 16384 in
theorem task_obligation (hF : (K (F := F)).Facts) (hm : MemOK m) : (K (F := F)).TileObl (D (F := F)) 𝒱 (P m) v₀ 0 := by
  intro d c i O W hO _ _
  have hb : ((K (F := F)).core 0 c).val < grid0.bound 0 ∧ ((K (F := F)).sub 0 i).val < grid0.bound 1 := ⟨c.isLt, i.isLt⟩
  rw [show (P m).ox = fun _ _ => 0 from rfl]
  simp only [add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [subcore_runs]
  simp only [SparseCore.onTile, hb, and_self, ↓reduceDIte]
  exact (tile_body d (pointOf ⟨_, hb.1⟩ ⟨_, hb.2⟩) m hF hm O W hO).trans (wp_mono frame _ _ fun _ => task_end)

/-! ## The arrays cut for the tasks and put together -/

theorem blocks_apart : ∀ i ∈ (Finset.univ : Finset (Fin 16)), ∀ j ∈ (Finset.univ : Finset (Fin 16)), i ≠ j → Disjoint (blkSet i) (blkSet j) :=
  fun _ _ _ _ h => Rect.part_disjoint div16 h
theorem blocks_cover : (Finset.univ : Finset (Fin 16)).biUnion blkSet = Finset.univ := Rect.biUnion_part div16

/-- An array of 256 elements is its sixteen blocks. -/
theorem pc_blocks (d : Dev nD) (f : Buf (Elt F) (pcLoc d)) :
    (pcLoc d ↦{fullShare} f : sProp 𝕄) = bigSep Finset.univ fun i : Fin 16 => pcLoc d ↦[blkSet i]{fullShare} f := by
  rw [← pointsTo_biUnion Finset.univ (ℓ := pcLoc d) blkSet blocks_apart, blocks_cover]; try rfl
theorem sp_blocks (d : Dev nD) (f : Buf (Elt F) (spLoc d)) :
    (spLoc d ↦{fullShare} f : sProp 𝕄) = bigSep Finset.univ fun i : Fin 16 => spLoc d ↦[blkSet i]{fullShare} f := by
  rw [← pointsTo_biUnion Finset.univ (ℓ := spLoc d) blkSet blocks_apart, blocks_cover]; try rfl
theorem re_blocks (d : Dev nD) (f : Buf (Elt F) (reLoc d)) :
    (reLoc d ↦{fullShare} f : sProp 𝕄) = bigSep Finset.univ fun i : Fin 16 => reLoc d ↦[blkSet i]{fullShare} f := by
  rw [← pointsTo_biUnion Finset.univ (ℓ := reLoc d) blkSet blocks_apart, blocks_cover]; try rfl
/-- The memory, read by all, is its sixteen shares. -/
theorem me_shares (d : Dev nD) (f : Buf (Elt F) (meLoc d)) :
    (meLoc d ↦{fullShare} f : sProp 𝕄) = bigSep Finset.univ fun i : Fin 16 => meLoc d ↦{meSh i} f :=
  ShareLeaves.pointsTo_leaves Finset.univ f 4 fullShare

/-- The call's arrays are its tasks' parts. -/
theorem callPts_tasks (d : Dev nD) (f : Buf (Elt F) (reLoc d)) :
    (bigSep Finset.univ fun i : Fin ((K (F := F)).nSub 0) => taskPts m d (Fin.cast tasks16 i) f) = callPts m d f := by
  refine (bigSep_congr (Ψ := fun i : Fin 16 => taskPts m d i f) fun _ _ => congrArg (fun j => taskPts m d j f) (Fin.ext rfl)).trans ?_
  rw [bigSep_sep', bigSep_sep', bigSep_sep', callPts, pc_blocks, sp_blocks, me_shares, re_blocks]

theorem tasks_split : (K (F := F)).VecSplit' (P m) 0 := by
  intro d c
  show callPts m d (m (reLoc d)) ⊢ |={Set.univ}=> iprop(
      (bigSep Finset.univ fun i : Fin ((K (F := F)).nSub 0) => taskPts m d (Fin.cast tasks16 i) (m (reLoc d)))
      ∗ ((bigSep Finset.univ fun i : Fin ((K (F := F)).nSub 0) => taskPts m d (Fin.cast tasks16 i) (res m d)) -∗ callPts m d (res m d)))
  rw [callPts_tasks, callPts_tasks]
  iintro H
  imodintro
  isplitl [H]; · iexact H
  iintro H; iexact H

/-! ## The launch's ghost state -/

/-- No pipeline has a prefetched table. -/
abbrev adm0 : (p : Fin 1) → (pcfgs (F := F) p).Adm := fun p => (cfgs p).toPCfg_adm
/-- The pipelines as the region's rule names them. -/
abbrev pcs0 : Fin 1 → Pipeline.Cfg sig Λ₀ := Pipeline.pin (pcfgs (F := F)) adm0

theorem cells_apart : Function.Injective (Pipeline.cellOf (nD := nD) (τ := τ) (pcs0 (F := F))) := cellOf_inj

/-- The pipeline's launch element. -/
def pipe₀ : UP := initOf (Pipeline.cells (pcs0 (F := F)) cells_apart) (Pipeline.launchToks (pcs0 (F := F)) cells_apart)

/-- The launch element: the handshakes' rounds, the pipeline's, no counter. -/
def u₀ : UU := (initOf (K (F := F)).hsCells (K (F := F)).hsToks, (pipe₀ (F := F), 1))

/-- What the pipeline's cells start from on device `d`. -/
abbrev G (d : Dev nD) : sProp 𝕄 :=
  iprop(Pipeline.cellsGhost (pcs0 (F := F)) EP 0 d ∗ Pipeline.toksInit (pcs0 (F := F)) EP 0 d)

theorem halves (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem launch_ghost : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ pipe₀
  iintro Hu
  ihave H := (halves _ _) $$ Hu
  icases H with ⟨HH, HP⟩
  imod (Pipeline.fund_ghost (pcs0 (F := F)) EP cells_apart) $$ HP with ⟨Hc, Ht⟩
  imodintro
  isplitl [HH]; · iexact HH
  isplitl [Hc Ht]
  · rw [bigSep_sep']
    have hc : (bigSep Finset.univ fun d : Dev nD => bigSep Finset.univ fun p => (Pipeline.cellsGhost (pcs0 (F := F)) EP p d : sProp 𝕄))
        = bigSep Finset.univ fun d : Dev nD => Pipeline.cellsGhost (pcs0 (F := F)) EP 0 d := bigSep_congr fun _ _ => bigSep_univ_of_subsingleton (0 : Fin 1)
    have ht : (bigSep Finset.univ fun d : Dev nD => bigSep Finset.univ fun p => (Pipeline.toksInit (pcs0 (F := F)) EP p d : sProp 𝕄))
        = bigSep Finset.univ fun d : Dev nD => Pipeline.toksInit (pcs0 (F := F)) EP 0 d := bigSep_congr fun _ _ => bigSep_univ_of_subsingleton (0 : Fin 1)
    rw [← hc, ← ht]
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  exact (Entails.of_eq (bigSep_emp_const _).symm)

end Cert.Proof.Vm

end
-- ==== Proof.Region.lean ====
/- The TensorCore's pipelined call: at each of its four points the body writes 64 rows, each the memory with the row's
   result at the row's stack address; the four blocks are the whole output. -/
module

public import proofs.«01_k».proof.Proof.Launch
public import Idealize.ShloMosaic.Lib.Pipeline.Value
public import Idealize.ShloMosaic.Lib.Pipeline.FrameBody
public import Idealize.ShloMosaic.Lib.Pipeline.RegionsLoop

@[expose] public section

noncomputable section

namespace Cert.Proof.Vm

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

theorem zeros2 : (![0, 0] : Fin 2 → ℕ) = fun _ => 0 := funext fun a => by fin_cases a <;> rfl

/-- A load of a whole buffer reads its contents. -/
theorem load_whole {S : Shape} {e : EltTy} (M : Memref sig .tc .vmem S e) {off : Fin S.rank → ℕ} (ho : off = fun _ => 0)
    (inb : ∀ a, off a + S.size a ≤ S.size a) {c : Dev nD} (f : Buf (Elt F) (M.view.loc (c : Thread nD τ))) :
    View.readAt (Elt F) M.view (Rect.unit off S.size inb).toLoadRect f = M.view.read (Elt F) f :=
  View.ld_unit_zero ho inb (M.view.read (Elt F) f)

/-- Buffer `M` of core `c`, whole, at `f`. -/
abbrev pts (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 2000000 in
/-- The body leaves in its output buffer the rows of its three input buffers, and those as they were. -/
theorem rows_body (c : Dev nD) (i : grid1.Coords) (M0 : Memref sig .tc .vmem S1x65536 .f32) (h0 : M0.IsWhole) (M1 : Memref sig .tc .vmem S64x1 .i32) (h1 : M1.IsWhole)
    (M2 : Memref sig .tc .vmem S64x1 .f32) (h2 : M2.IsWhole) (M3 : Memref sig .tc .vmem S64x65536 .f32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) (Q : PUnit → sProp 𝕄) :
    iprop(pts c M0 f0 ∗ pts c M1 f1 ∗ pts c M2 f2 ∗ pts c M3 f3
        ∗ ((pts c M0 f0 ∗ pts c M1 f1 ∗ pts c M2 f2
            ∗ ∃ g, ⌜M3.view.read (Elt F) g = k1_pay1 (M1.view.read (Elt F) f1) (M2.view.read (Elt F) f2) (M0.view.read (Elt F) f0)⌝ ∗ pts c M3 g) -∗ Q ⟨⟩))
      ⊢ wp frame (wpE (defs₀ (F := F)) 𝒱₀ c none) Set.univ (cc1_body i M0 h0 M1 h1 M2 h2 M3 h3) Q := by
  rw [cc1_body_eq_skeleton]; unfold cc1_body_skel
  iintro ⟨H0, H1, H2, H3, Hk⟩
  sl_exec
  sl_step
  iapply Hk
  isplitl [H0]; · iexact H0
  isplitl [H1]; · iexact H1
  isplitl [H2]; · iexact H2
  iexists _
  isplitr; swap; · iexact H3
  ipureintro
  exact (View.read_writes_full (Val := Elt F) M3.view f3 (off := ![0, 0]) _ _ []).trans
    (by rw [load_whole M1 zeros2, load_whole M2 zeros2, load_whole M0 zeros2])

/-! ## The region's data at an entry -/

variable (V : (c : Dev nD) → (b : Ref sig .tc) → Buf (Elt F) ((c : Thread nD τ).loc b))

/-- Window `w`'s block at point `t` of the arrays the region is entered with. -/
abbrev blkAt (c : Dev nD) (w : Fin 4) (t : Fin cfg1.N) : ((cfg1.win w).xblock (cfg1.grid.coords t)).Idx → Elt F (cfg1.win w).elt :=
  ((cfg1.win w).blk t).view.read (Elt F) (V c (Pipeline.arrRef spec1 w))

/-- What waits the core has recorded when the region runs: none above the handshakes' level. -/
abbrev lowWaits (c : Dev nD) : Set (SemLoc sig × HIx 1) := {p | (K (F := F)).lev ((c : Thread nD τ), p.1) p.2 ≤ 8 * 1}

def dat (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => k1_pay1 (blkAt V c 1 t) (blkAt V c 2 t) (blkAt V c 0 t)
  Φ _ := BI.emp
  q _ := fullShare
  owed _ := 0
  recorded _ := lowWaits (F := F) c

theorem held0 (c : Dev nD) (t : Fin cfg1.N) (d) : (dat V c).before 0 t d = blkAt V c 0 t :=
  (dat V c).before_in_eq_fetched 0 rfl (fun _ => rfl) (fun _ _ _ => rfl) (fun _ => rfl) t d
theorem held1 (c : Dev nD) (t : Fin cfg1.N) (d) : (dat V c).before 1 t d = blkAt V c 1 t :=
  (dat V c).before_in_eq_fetched 1 rfl (fun _ => rfl) (fun _ _ _ => rfl) (fun _ => rfl) t d
theorem held2 (c : Dev nD) (t : Fin cfg1.N) (d) : (dat V c).before 2 t d = blkAt V c 2 t :=
  (dat V c).before_in_eq_fetched 2 rfl (fun _ => rfl) (fun _ _ _ => rfl) (fun _ => rfl) t d

theorem body_obligation (c : Dev nD) : BodyObligation (dat V c) (defs₀ (F := F)) 𝒱₀ none Set.univ := fun t => by
  rw [bigSep_W1, bigSep_W1]
  simp only [owns]
  have hs0 : ((cfg1.win 0).stage (cfg1.slots t 0)).view.set = Finset.univ := (hstage1_0 ((cfg1.slots t 0).cast nbuf1_0)).set_eq_univ
  have hs1 : ((cfg1.win 1).stage (cfg1.slots t 1)).view.set = Finset.univ := (hstage1_1 ((cfg1.slots t 1).cast nbuf1_1)).set_eq_univ
  have hs2 : ((cfg1.win 2).stage (cfg1.slots t 2)).view.set = Finset.univ := (hstage1_2 ((cfg1.slots t 2).cast nbuf1_2)).set_eq_univ
  have hs3 : ((cfg1.win 3).stage (cfg1.slots t 3)).view.set = Finset.univ := (hstage1_3 ((cfg1.slots t 3).cast nbuf1_3)).set_eq_univ
  rw [hs0, hs1, hs2, hs3, show (dat V c).owesAt none t.succ = (dat V c).owesAt none t.castSucc from rfl,
    show (dat V c).Φ t.succ = (dat V c).Φ t.castSucc from rfl]
  iintro ⟨HΦ, Howes, ⟨%d0, %f0, %e0, H0⟩, ⟨%d1, %f1, %e1, H1⟩, ⟨%d2, %f2, %e2, H2⟩, ⟨%d3, %f3, -, H3⟩⟩
  rw [held0] at e0
  rw [held1] at e1
  rw [held2] at e2
  iapply (rows_body c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) f0 f1 f2 f3 _)
  isplitl [H0]; · iexact H0
  isplitl [H1]; · iexact H1
  isplitl [H2]; · iexact H2
  isplitl [H3]; · iexact H3
  iintro ⟨H0, H1, H2, %g, %hg, H3⟩
  isplitl [HΦ]; · iexact HΦ
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  iexists g; isplitr; swap; (· iexact H3); ipureintro
  refine hg.trans ?_
  exact congr (congr (congrArg k1_pay1 e1) e2) e0

/-! ## What the output array holds after the region -/

/-- The 256 rows: at a row's address its result, elsewhere the memory's row. -/
def rowsOf (v1 : S1x65536.Idx → F .f32) (v2 : S256x1.Idx → BitVec 32) (v3 : S256x1.Idx → F .f32) : S256x65536.Idx → F .f32 :=
  fun j => if BitVec.ofNat 32 (j 1).val = v2 (ix2 (j 0) 0) then v3 (ix2 (j 0) 0) else v1 (ix2 0 (j 1))

theorem k1_pay1_apply (a : Vec F S64x1 .i32) (b : Vec F S64x1 .f32) (r : Vec F S1x65536 .f32) (x : S64x65536.Idx) :
    k1_pay1 a b r x = if BitVec.ofNat 32 (x 1).val = a (ix2 (x 0) 0) then b (ix2 (x 0) 0) else r (ix2 0 (x 1)) := by
  unfold k1_pay1
  simp only [shapeCast_id]
  have ea : broadcastTo S64x65536 a broadcasts_S64x1_S64x65536 x = a (ix2 (x 0) 0) :=
    broadcastTo_apply a _ x _ fun k => by fin_cases k <;> rfl
  have eb : broadcastTo S64x65536 b broadcasts_S64x1_S64x65536 x = b (ix2 (x 0) 0) :=
    broadcastTo_apply b _ x _ fun k => by fin_cases k <;> rfl
  have er : broadcastTo S64x65536 r broadcasts_S1x65536_S64x65536 x = r (ix2 0 (x 1)) :=
    broadcastTo_apply r _ x _ fun k => by fin_cases k <;> rfl
  show Scalar.select (IntOp.cmpi .eq (iota .tc S64x65536 32 [1] iota_S64x65536_d1_w32 x) (broadcastTo S64x65536 a broadcasts_S64x1_S64x65536 x))
    (broadcastTo S64x65536 b broadcasts_S64x1_S64x65536 x) (broadcastTo S64x65536 r broadcasts_S1x65536_S64x65536 x) = _
  rw [ea, eb, er, iota_single_apply]
  by_cases h : BitVec.ofNat 32 (x 1).val = a (ix2 (x 0) 0)
  · simp [Scalar.select, IntOp.cmpi, h]
  · simp only [Scalar.select, IntOp.cmpi, beq_eq_false_iff_ne.mpr h, if_neg h]; rfl

/-- Point `t`'s block is the rows from `64 t`. -/
theorem row_index (t : Fin cfg1.N) :
    (win1_0.index t 0 = 0 ∧ win1_0.index t 1 = 0) ∧ (win1_1.index t 0 = t.val ∧ win1_1.index t 1 = 0)
      ∧ (win1_2.index t 0 = t.val ∧ win1_2.index t 1 = 0) ∧ (win1_3.index t 0 = t.val ∧ win1_3.index t 1 = 0) := by
  rcases fin_N1 t with rfl | rfl | rfl | rfl <;> decide +kernel

theorem emb_row0 (t : Fin cfg1.N) (x : S1x65536.Idx) : ((cfg1.win 0).blk t).view.emb x = x := by
  obtain ⟨⟨e0, e1⟩, -⟩ := row_index t
  funext a; apply Fin.ext
  match a with
  | ⟨0, _⟩ => show win1_0.index t (0 : Fin 2) * 1 + 1 * (x 0).val = (x 0).val; omega
  | ⟨1, _⟩ => show win1_0.index t (1 : Fin 2) * 65536 + 1 * (x 1).val = (x 1).val; omega

theorem row_lt (t : Fin cfg1.N) (r : Fin 64) : t.val * 64 + r.val < 256 := by
  have h : t.val < 4 := t.isLt
  omega

/-- Row `r` of point `t`'s block, in the array. -/
abbrev rowAt (t : Fin cfg1.N) (r : Fin 64) : Fin 256 := ⟨t.val * 64 + r.val, row_lt t r⟩

theorem emb_row1 (t : Fin cfg1.N) (x : S64x1.Idx) : ((cfg1.win 1).blk t).view.emb x = ix2 (rowAt t (x 0)) (x 1) := by
  obtain ⟨-, ⟨e0, e1⟩, -⟩ := row_index t
  funext a; apply Fin.ext
  match a with
  | ⟨0, _⟩ => show win1_1.index t (0 : Fin 2) * 64 + 1 * (x 0).val = t.val * 64 + (x 0).val; rw [e0]; omega
  | ⟨1, _⟩ => show win1_1.index t (1 : Fin 2) * 1 + 1 * (x 1).val = (x 1).val; omega

theorem emb_row2 (t : Fin cfg1.N) (x : S64x1.Idx) : ((cfg1.win 2).blk t).view.emb x = ix2 (rowAt t (x 0)) (x 1) := by
  obtain ⟨-, -, ⟨e0, e1⟩, -⟩ := row_index t
  funext a; apply Fin.ext
  match a with
  | ⟨0, _⟩ => show win1_2.index t (0 : Fin 2) * 64 + 1 * (x 0).val = t.val * 64 + (x 0).val; rw [e0]; omega
  | ⟨1, _⟩ => show win1_2.index t (1 : Fin 2) * 1 + 1 * (x 1).val = (x 1).val; omega

theorem emb_row3 (t : Fin cfg1.N) (x : S64x65536.Idx) : ((cfg1.win 3).blk t).view.emb x = ix2 (rowAt t (x 0)) (x 1) := by
  obtain ⟨-, -, -, ⟨e0, e1⟩⟩ := row_index t
  funext a; apply Fin.ext
  match a with
  | ⟨0, _⟩ => show win1_3.index t (0 : Fin 2) * 64 + 1 * (x 0).val = t.val * 64 + (x 0).val; rw [e0]; omega
  | ⟨1, _⟩ => show win1_3.index t (1 : Fin 2) * 65536 + 1 * (x 1).val = (x 1).val; omega

theorem block_of_rows (c : Dev nD) (t : Fin cfg1.N) :
    (dat V c).flushed 3 t = ((cfg1.win 3).blk t).view.read (Elt F) (rowsOf (F := F) (V c main_v1) (V c main_v2) (V c main_v3)) := by
  funext x
  show k1_pay1 (blkAt V c 1 t) (blkAt V c 2 t) (blkAt V c 0 t) x = rowsOf (V c main_v1) (V c main_v2) (V c main_v3) (((cfg1.win 3).blk t).view.emb x)
  rw [k1_pay1_apply, emb_row3]
  show (if BitVec.ofNat 32 (x 1).val = V c main_v2 (((cfg1.win 1).blk t).view.emb (ix2 (x 0) 0)) then V c main_v3 (((cfg1.win 2).blk t).view.emb (ix2 (x 0) 0))
    else V c main_v1 (((cfg1.win 0).blk t).view.emb (ix2 0 (x 1)))) = _
  rw [emb_row0, emb_row1, emb_row2]
  rfl

theorem rows_cover (i : S256x65536.Idx) : ∃ t : Fin cfg1.N, (cfg1.win 3).flush t = true ∧ i ∈ ((cfg1.win 3).blk t).view.set := by
  have hi : (i 0).val < 256 := (i 0).isLt
  refine ⟨⟨(i 0).val / 64, show _ < 4 by omega⟩, flush1_3 _, ?_⟩
  have h := ((cfg1.win 3).blk ⟨(i 0).val / 64, show _ < 4 by omega⟩).view.emb_mem_set (ix2 ⟨(i 0).val % 64, Nat.mod_lt _ (by decide)⟩ (i 1) : S64x65536.Idx)
  rw [emb_row3] at h
  refine (congrArg (· ∈ _) ?_).mp h
  refine Eq.trans ?_ (eq_ix2 i).symm
  refine congrArg (fun r => ix2 r (i 1)) (Fin.ext ?_)
  show (i 0).val / 64 * 64 + (i 0).val % 64 = (i 0).val
  omega

theorem rows_final (c : Dev nD) : (dat V c).arrAt 3 cfg1.N = rowsOf (F := F) (V c main_v1) (V c main_v2) (V c main_v3) :=
  (dat V c).arrAt_eq_of_cover 3 _ (fun t _ => block_of_rows V c t) rows_cover

/-! ## The region over the thread state -/

/-- The one pipeline's data, as the region's rule takes a family over the pipelines. -/
def dats : (p : Fin 1) → (c : Dev nD) → Dat τ (Elt F) (HIx 1) ℕ UU ℕ (Pipeline.pin (pcfgs (F := F)) adm0 p) c
  | ⟨0, _⟩ => fun c => dat V c

variable (Vp : (c : Dev nD) → (b : Ref sig .tc) → Buf (Elt F) ((c : Thread nD τ).loc b))

/-- What the core has recorded and owes around the region: nothing owed, its waits low. -/
abbrev owesLow (c : Dev nD) : sProp 𝕄 :=
  iprop(∃ W : Waits sig (HIx 1), ⌜∀ p ∈ W, p ∈ lowWaits (F := F) c⌝ ∗ owes (c : Thread nD τ) (0 : CellTallies nD τ sig (HIx 1)) W)

set_option backward.isDefEq.respectTransparency.types false in
/-- The pipelined call from the core's unscoped buffers at `V` to the same at `Vp`: the output array at the rows. -/
def reg (hout : ∀ c, Vp c main_v4 = rowsOf (F := F) (V c main_v1) (V c main_v2) (V c main_v3))
    (hne : ∀ c (b : Ref sig .tc), b ≠ main_v4 → Vp c b = V c b) :
    Pipeline.RegionSeg (pcfgs (F := F)) adm0 (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ owesLow c)
  post c := iprop(unscopedBufs c (Vp c) ∗ owesLow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm0 (dats V) launch1.win launch1.arr_whole c
      ((dats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats V 0 c).Φ 0 = BI.emp from rfl, show Pipeline.scopedRest (Ix := HIx 1) (Name := ℕ) (U := UU) (Lvl := ℕ) (Val := Elt F) (pcfgs (F := F) 0).spec c = BI.emp from scopedRest1_eq c]
    iintro ⟨-, -, H⟩; iexact H
  hout c := by
    rw [Pipeline.ownSems0_none, show (dats V 0 c).Φ (Fin.last _) = BI.emp from rfl, show Pipeline.scopedRest (Ix := HIx 1) (Name := ℕ) (U := UU) (Lvl := ℕ) (Val := Elt F) (pcfgs (F := F) 0).spec c = BI.emp from scopedRest1_eq c]
    iintro -
    isplitr; · iempintro
    isplitr <;> iempintro
  hexit c := by
    have hjoin := Pipeline.unscopedBufs_of_arrays (p := 0) (pcfgs (F := F)) adm0 (Ix := HIx 1) (Name := ℕ) (U := UU) (Lvl := ℕ) launch1.win launch1.arr_whole c
      (dats V) ((dats V 0 c).share_full fun _ => rfl) (V c) (Vp c) ((dats V 0 c).arrAt · cfg1.N)
      (fun w => by
        fin_cases w
        · exact ((dats V 0 c).arrAt_in 0 rfl _).trans (hne c main_v1 (by decide)).symm
        · exact ((dats V 0 c).arrAt_in 1 rfl _).trans (hne c main_v2 (by decide)).symm
        · exact ((dats V 0 c).arrAt_in 2 rfl _).trans (hne c main_v3 (by decide)).symm
        · exact (rows_final V c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr
    · ipureintro; intro p hp
      rcases hW hp with h | ⟨w, s, h⟩
      · exact h
      · rw [h]; exact Nat.zero_le _
    iexact HO

end Cert.Proof.Vm

end
-- ==== Proof.Run.lean ====
/- The program's run: the SparseCore call, the three reshapes, the pipelined call, one after another on the TensorCore;
   its arrays where it ends, the arguments as they were and the output at `outOf`. -/
module

public import proofs.«01_k».proof.Proof.Region
public import Idealize.ShloMosaic.Lib.Pipeline.Frame

@[expose] public section

noncomputable section

namespace Cert.Proof.Vm

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays, one by one and together -/

abbrev devRef (b : Ref sig .tc) : DevRef τ sig := Proc.devRef .tc b

theorem arrays_eq (d : Dev nD) (W : (b : Ref sig .tc) → Buf (Elt F) ((d.tc : Thread nD τ).loc b)) :
    (unscopedBufs d W : sProp 𝕄)
      = iprop((pcLoc d ↦{fullShare} W main_arg0) ∗ (spLoc d ↦{fullShare} W main_arg1) ∗ (bpLoc d ↦{fullShare} W main_arg2)
          ∗ (axLoc d ↦{fullShare} W main_arg3) ∗ (meLoc d ↦{fullShare} W main_arg4) ∗ (reLoc d ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped)
        = {main_arg0, main_arg1, main_arg2, main_arg3, main_arg4, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The contents between the steps -/

abbrev opMe : HloOp τ sig (Elt F) := StableHlo.reshape main_arg4 main_v1 (rfl : (.f32 : EltTy) = .f32) shapeCasts_S65536_S1x65536
abbrev opSp : HloOp τ sig (Elt F) := StableHlo.reshape main_arg1 main_v2 (rfl : (.i32 : EltTy) = .i32) shapeCasts_S256_S256x1
abbrev opRe : HloOp τ sig (Elt F) := StableHlo.reshape main_v0 main_v3 (rfl : (.f32 : EltTy) = .f32) shapeCasts_S256_S256x1

/-- At the launch, after the SparseCore call, after each reshape. -/
def at0 (d : Dev nD) : Valuation τ sig (Elt F) := fun b => m (d, b)
def at1 (d : Dev nD) : Valuation τ sig (Elt F) := Function.update (at0 m d) (devRef main_v0) (res m d)
def at2 (d : Dev nD) : Valuation τ sig (Elt F) := (opMe (F := F)).result (at1 m d)
def at3 (d : Dev nD) : Valuation τ sig (Elt F) := (opSp (F := F)).result (at2 m d)
def at4 (d : Dev nD) : Valuation τ sig (Elt F) := (opRe (F := F)).result (at3 m d)

theorem at1_ne (d : Dev nD) (b : DevRef τ sig) (h : b ≠ devRef main_v0) : at1 m d b = m (d, b) := Function.update_of_ne h _ _
theorem at4_ne (d : Dev nD) (b : DevRef τ sig) (h0 : b ≠ devRef main_v0) (h1 : b ≠ devRef main_v1) (h2 : b ≠ devRef main_v2) (h3 : b ≠ devRef main_v3) :
    at4 m d b = m (d, b) := by
  unfold at4 at3 at2
  rw [(opRe (F := F)).result_of_not_mem _ (show b ∉ ({devRef main_v3} : Finset _) from fun h => h3 (Finset.mem_singleton.mp h)),
    (opSp (F := F)).result_of_not_mem _ (show b ∉ ({devRef main_v2} : Finset _) from fun h => h2 (Finset.mem_singleton.mp h)),
    (opMe (F := F)).result_of_not_mem _ (show b ∉ ({devRef main_v1} : Finset _) from fun h => h1 (Finset.mem_singleton.mp h)), at1_ne m d b h0]

theorem at4_me (d : Dev nD) : at4 m d (devRef main_v1) = shapeCast S1x65536 (m (meLoc d)) shapeCasts_S65536_S1x65536 := by
  unfold at4 at3 at2
  rw [(opRe (F := F)).result_of_not_mem _ (show devRef main_v1 ∉ ({devRef main_v3} : Finset _) by decide),
    (opSp (F := F)).result_of_not_mem _ (show devRef main_v1 ∉ ({devRef main_v2} : Finset _) by decide)]
  refine (StableHlo.reshape_result _ _ _ _ _ _ _).trans ?_
  rw [at1_ne m d _ (by decide)]
  rfl
theorem at4_sp (d : Dev nD) : at4 m d (devRef main_v2) = shapeCast S256x1 (m (spLoc d)) shapeCasts_S256_S256x1 := by
  unfold at4 at3
  rw [(opRe (F := F)).result_of_not_mem _ (show devRef main_v2 ∉ ({devRef main_v3} : Finset _) by decide)]
  refine (StableHlo.reshape_result _ _ _ _ _ _ _).trans ?_
  unfold at2
  rw [(opMe (F := F)).result_of_not_mem _ (show devRef main_arg1 ∉ ({devRef main_v1} : Finset _) by decide), at1_ne m d _ (by decide)]
  rfl
theorem at4_re (d : Dev nD) : at4 m d (devRef main_v3) = shapeCast S256x1 (res m d) shapeCasts_S256_S256x1 := by
  unfold at4
  refine (StableHlo.reshape_result _ _ _ _ _ _ _).trans ?_
  unfold at3 at2
  rw [(opSp (F := F)).result_of_not_mem _ (show devRef main_v0 ∉ ({devRef main_v2} : Finset _) by decide),
    (opMe (F := F)).result_of_not_mem _ (show devRef main_v0 ∉ ({devRef main_v1} : Finset _) by decide)]
  unfold at1
  rw [Function.update_self]
  rfl

/-- The output: every row the memory, with the row's result at the row's stack address. -/
abbrev out (d : Dev nD) : S256x65536.Idx → F .f32 := outOf (m (pcLoc d)) (m (spLoc d)) (m (meLoc d))

/-- The rows of the reshaped arrays, in terms of the arrays. -/
theorem rows_cast (me : S65536.Idx → F .f32) (sp : S256.Idx → BitVec 32) (re : S256.Idx → F .f32) :
    rowsOf (F := F) (shapeCast S1x65536 me shapeCasts_S65536_S1x65536) (shapeCast S256x1 sp shapeCasts_S256_S256x1) (shapeCast S256x1 re shapeCasts_S256_S256x1)
      = fun j => if BitVec.ofNat 32 (j 1).val = sp (ix1 (j 0)) then re (ix1 (j 0)) else me (ix1 (j 1)) := by
  have h1 (k : Fin 65536) : shapeCast S1x65536 me shapeCasts_S65536_S1x65536 (ix2 0 k) = me (ix1 k) :=
    shapeCast_apply _ _ _ _ (by rw [Shape.rowMajor_val_one, Shape.rowMajor_val_two]; show k.val = 0 * 65536 + k.val; omega)
  have h2 {α : Type} (x : S256.Idx → α) (k : Fin 256) : shapeCast S256x1 x shapeCasts_S256_S256x1 (ix2 k 0) = x (ix1 k) :=
    shapeCast_apply _ _ _ _ (by rw [Shape.rowMajor_val_one, Shape.rowMajor_val_two]; show k.val = k.val * 1 + 0; omega)
  funext j
  unfold rowsOf
  refine (if_congr (Eq.congr_right (h2 sp (j 0))) (h2 re (j 0)) (h1 (j 1)))

theorem out_eq (d : Dev nD) : rowsOf (F := F) (at4 m d (devRef main_v1)) (at4 m d (devRef main_v2)) (at4 m d (devRef main_v3)) = out m d := by
  rw [at4_me, at4_sp, at4_re]
  exact rows_cast _ _ _

/-- After the pipelined call. -/
def at5 (d : Dev nD) : Valuation τ sig (Elt F) := Function.update (at4 m d) (devRef main_v4) (out m d)

theorem at5_out (d : Dev nD) : at5 m d (devRef main_v4) = out m d := Function.update_self _ _ _
theorem at5_arg (d : Dev nD) (b : DevRef τ sig) (h0 : b ≠ devRef main_v0) (h1 : b ≠ devRef main_v1) (h2 : b ≠ devRef main_v2) (h3 : b ≠ devRef main_v3)
    (h4 : b ≠ devRef main_v4) : at5 m d b = m (d, b) := (Function.update_of_ne h4 _ _).trans (at4_ne m d b h0 h1 h2 h3)

/-- The pipelined call between them. -/
abbrev region : Pipeline.RegionSeg (pcfgs (F := F)) adm0 (dats fun c b => at4 m c (devRef b)) none defs₀ 𝒱₀ (K (F := F)).L (K (F := F)).lev 0 :=
  reg (fun c b => at4 m c (devRef b)) (fun c b => at5 m c (devRef b)) (fun c => (at5_out m c).trans (out_eq m c).symm)
    fun c b h => Function.update_of_ne (fun e => h (Proc.devRef_injective _ e)) _ _

/-! ## The calls' arrays and what is kept -/

theorem start_eq (d : Dev nD) : (bigSep Finset.univ fun c : Fin ((K (F := F)).nCore 0) => (P m).st 0 d c) = callPts m d (m (reLoc d)) :=
  bigSep_univ_of_subsingleton (0 : Fin 1)
theorem done_eq (d : Dev nD) : (bigSep Finset.univ fun c : Fin ((K (F := F)).nCore 0) => (P m).dn 0 d c) = callPts m d (res m d) :=
  bigSep_univ_of_subsingleton (0 : Fin 1)

/-- What is kept to the end: the arguments as they were, the output. -/
abbrev kept (d : Dev nD) : sProp 𝕄 :=
  iprop((pcLoc d ↦{fullShare} m (pcLoc d)) ∗ (spLoc d ↦{fullShare} m (spLoc d)) ∗ (bpLoc d ↦{fullShare} m (bpLoc d))
    ∗ (axLoc d ↦{fullShare} m (axLoc d)) ∗ (meLoc d ↦{fullShare} m (meLoc d)) ∗ (SparseCore.T d).loc main_v4 ↦{fullShare} out m d)

theorem kept_of (d : Dev nD) : (unscopedBufs d (fun b => at5 m d (devRef b)) : sProp 𝕄) ⊢ kept m d := by
  rw [arrays_eq, at5_out, at5_arg m d _ (by decide) (by decide) (by decide) (by decide) (by decide), at5_arg m d _ (by decide) (by decide) (by decide) (by decide) (by decide),
    at5_arg m d _ (by decide) (by decide) (by decide) (by decide) (by decide), at5_arg m d _ (by decide) (by decide) (by decide) (by decide) (by decide),
    at5_arg m d _ (by decide) (by decide) (by decide) (by decide) (by decide)]
  iintro ⟨H0, H1, H2, H3, H4, -, -, -, -, Ho⟩
  isplitl [H0]; · iexact H0
  isplitl [H1]; · iexact H1
  isplitl [H2]; · iexact H2
  isplitl [H3]; · iexact H3
  isplitl [H4]; · iexact H4
  iexact Ho

theorem bufs_sub (op : HloOp τ sig (Elt F)) (h : op.bufs ⊆ StableHlo.tcRefs τ sig) (h' : ∀ b ∈ op.bufs, ¬ b.isScoped) : op.bufs ⊆ ucRefs τ sig :=
  fun b hb => Finset.mem_filter.mpr ⟨h hb, h' b hb⟩

set_option backward.isDefEq.respectTransparency.types false in
theorem main_runs [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 1 ∗ kept m d ∗ (K (F := F)).tcEnd d) := by
  have hMe : (opMe (F := F)).bufs ⊆ ucRefs τ sig := show ({devRef main_arg4, devRef main_v1} : Finset (DevRef τ sig)) ⊆ _ by decide
  have hSp : (opSp (F := F)).bufs ⊆ ucRefs τ sig := show ({devRef main_arg1, devRef main_v2} : Finset (DevRef τ sig)) ⊆ _ by decide
  have hRe : (opRe (F := F)).bufs ⊆ ucRefs τ sig := show ({devRef main_v0, devRef main_v3} : Finset (DevRef τ sig)) ⊆ _ by decide
  unfold SparseCore.Cfg.tcRes SparseCore.Cfg.tcEnd
  rw [arrays_eq]
  simp only [main, wp_bind, wp_pure]
  iintro ⟨#Hctx, Hst, ⟨Hb, ⟨Hpc, Hsp, Hbp, Hax, Hme, Hre, H1, H2, H3, H4⟩, Hts, -⟩, HG⟩
  iapply ((K (F := F)).wp_run D 𝒱 (EH := EH) (P := P m) κ d 0) $$ [Hst Hpc Hsp Hbp Hax Hme Hre H1 H2 H3 H4 Hb Hts HG]
  isplitr; · iexact Hctx
  isplitl [Hst]; · iexact Hst
  isplitl [Hpc Hsp Hme Hre]
  · rw [start_eq]
    isplitl [Hpc]; · iexact Hpc
    isplitl [Hsp]; · iexact Hsp
    isplitl [Hme]; · iexact Hme
    iexact Hre
  iintro ⟨Hst, Hdn⟩
  ihave Hdn' := (Entails.of_eq (done_eq m d)) $$ Hdn
  icases Hdn' with ⟨Hpc, Hsp, Hme, Hre⟩
  have hheld : iprop((pcLoc d ↦{fullShare} m (pcLoc d)) ∗ (spLoc d ↦{fullShare} m (spLoc d)) ∗ (bpLoc d ↦{fullShare} m (bpLoc d))
          ∗ (axLoc d ↦{fullShare} m (axLoc d)) ∗ (meLoc d ↦{fullShare} m (meLoc d)) ∗ (reLoc d ↦{fullShare} res m d)
          ∗ ((SparseCore.T d).loc main_v1 ↦{fullShare} m ((SparseCore.T d).loc main_v1)) ∗ ((SparseCore.T d).loc main_v2 ↦{fullShare} m ((SparseCore.T d).loc main_v2))
          ∗ ((SparseCore.T d).loc main_v3 ↦{fullShare} m ((SparseCore.T d).loc main_v3)) ∗ (SparseCore.T d).loc main_v4 ↦{fullShare} m ((SparseCore.T d).loc main_v4))
      ⊢ (held (SparseCore.T d) (ucRefs τ sig) (at1 m d) : sProp 𝕄) := by
    refine Entails.of_eq (Eq.trans ?_ (unscopedBufs_held d (at1 m d)))
    rw [arrays_eq]
    congr 1
  ihave Hh := hheld $$ [Hpc Hsp Hbp Hax Hme Hre H1 H2 H3 H4]
  · isplitl [Hpc]; · iexact Hpc
    isplitl [Hsp]; · iexact Hsp
    isplitl [Hbp]; · iexact Hbp
    isplitl [Hax]; · iexact Hax
    isplitl [Hme]; · iexact Hme
    isplitl [Hre]; · iexact Hre
    isplitl [H1]; · iexact H1
    isplitl [H2]; · iexact H2
    isplitl [H3]; · iexact H3
    iexact H4
  iapply (wp_hlo_within 𝒱 (SparseCore.T d) none Set.univ (op := opMe) hMe (V := at1 m d)) $$ [Hb Hh]
  · isplitl [Hb] <;> iassumption
  iintro ⟨Hb, Hh⟩
  rw [wp_ret]; imodintro
  iapply (wp_hlo_within 𝒱 (SparseCore.T d) none Set.univ (op := opSp) hSp (V := (opMe (F := F)).result (at1 m d))) $$ [Hb Hh]
  · isplitl [Hb] <;> iassumption
  iintro ⟨Hb, Hh⟩
  rw [wp_ret]; imodintro
  iapply (wp_hlo_within 𝒱 (SparseCore.T d) none Set.univ (op := opRe) hRe (V := (opSp (F := F)).result ((opMe (F := F)).result (at1 m d)))) $$ [Hb Hh]
  · isplitl [Hb] <;> iassumption
  iintro ⟨Hb, Hh⟩
  rw [wp_ret]; imodintro
  have hub : (held (SparseCore.T d) (ucRefs τ sig) ((opRe (F := F)).result ((opSp (F := F)).result ((opMe (F := F)).result (at1 m d)))) : sProp 𝕄)
      ⊢ unscopedBufs d (fun b => at4 m d (devRef b)) := Entails.of_eq (unscopedBufs_held d (at4 m d)).symm
  ihave Hub := hub $$ Hh
  -- the pipelined call
  iapply ((K (F := F)).wp_liftProg D 𝒱 (SparseCore.T d) Set.univ none (Prog.lift (.customCall (Pipeline.entry 0) ())))
  ihave Hlev := (SparseCore.Cfg.ctx_levAts κ) $$ Hctx
  unfold SparseCore.Cfg.tcSt
  icases Hst with ⟨⟨%W, %hW, HO⟩, Hst⟩
  icases HG with ⟨Hc, Ht⟩
  rw [show (K (F := F)).Otc (N := 1) d ((0 : Fin 1).val + 1) = 0 from (K (F := F)).Otc_end d (le_refl 1),
    show (K (F := F)).Otc (N := 1) d 1 = 0 from (K (F := F)).Otc_end d (le_refl 1)]
  iapply (Pipeline.RegionSeg.wp (pcfgs (F := F)) adm0 (dats fun c b => at4 m c (devRef b)) none cells_apart EP defs₀ 𝒱₀ (K (F := F)).L (K (F := F)).lev
    (region m) d none (by intro u hu; exact absurd hu (by simp)) (fun a => .ret a) _) $$ [Hb Hub HO Hlev Hc Ht Hst Hts]
  isplitl [Hst Hts]
  · iintro ⟨Hb, Hpost⟩
    ihave Hpost' := (Entails.of_eq (show (region m).post d = iprop(unscopedBufs d (fun b => at5 m d (devRef b)) ∗ owesLow d) from rfl)) $$ Hpost
    icases Hpost' with ⟨Hub, %W', %hW', HO⟩
    rw [wp_ret]; imodintro; imodintro
    isplitl [Hst HO]
    · isplitl [HO]
      · iexists W'; isplitr; · ipureintro; exact hW'
        iexact HO
      iexact Hst
    isplitl [Hub]
    · iapply (kept_of m d); iexact Hub
    isplitl [Hb] <;> iassumption
  isplitl [Hb]; · iexact Hb
  isplitl [Hub HO]
  · rw [show (region m).pre d = iprop(unscopedBufs d (fun b => at4 m d (devRef b)) ∗ owesLow d) from rfl]
    isplitl [Hub]; · iexact Hub
    iexists W; isplitr; · ipureintro; exact hW
    iexact HO
  isplitl [Hlev]; · iexact Hlev
  isplitl [Hc] <;> iassumption

/-! ## The run -/

/-- What is read of device `d` where the program ends. -/
def endsAt (d : Dev nD) (s' : Phys nD τ sig (Elt F)) : Prop :=
  (s'.mem.mem (pcLoc d) = m (pcLoc d) ∧ s'.mem.mem (spLoc d) = m (spLoc d) ∧ s'.mem.mem (bpLoc d) = m (bpLoc d)
    ∧ s'.mem.mem (axLoc d) = m (axLoc d) ∧ s'.mem.mem (meLoc d) = m (meLoc d)) ∧ s'.mem.mem ((SparseCore.T d).loc main_v4) = out m d

/-- An array held whole where the program ends holds what it is held at. -/
theorem read_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem ends_of (d : Dev nD) (s' : Phys nD τ sig (Elt F)) : iprop(kept m d ∗ SI s') ⊢ (⌜endsAt m d s'⌝ : sProp 𝕄) := by
  iintro ⟨⟨H0, H1, H2, H3, H4, Ho⟩, HSI⟩
  ihave H := (read_held s' _ _) $$ [H0 HSI]
  · isplitl [H0] <;> iassumption
  icases H with ⟨%h0, HSI⟩
  ihave H := (read_held s' _ _) $$ [H1 HSI]
  · isplitl [H1] <;> iassumption
  icases H with ⟨%h1, HSI⟩
  ihave H := (read_held s' _ _) $$ [H2 HSI]
  · isplitl [H2] <;> iassumption
  icases H with ⟨%h2, HSI⟩
  ihave H := (read_held s' _ _) $$ [H3 HSI]
  · isplitl [H3] <;> iassumption
  icases H with ⟨%h3, HSI⟩
  ihave H := (read_held s' _ _) $$ [H4 HSI]
  · isplitl [H4] <;> iassumption
  icases H with ⟨%h4, HSI⟩
  ihave H := (read_held s' _ _) $$ [Ho HSI]
  · isplitl [Ho] <;> iassumption
  icases H with ⟨%ho, HSI⟩
  ipureintro; exact ⟨⟨h0, h1, h2, h3, h4⟩, ho⟩

/-- Every execution from zero counters ends, the arguments as they were, the output at `out`, the counters at zero. -/
def Ends : PUnit × MemSt nD τ sig (Elt F) → Prop := fun r =>
  (∀ d : Dev nD, (r.2.mem (pcLoc d) = m (pcLoc d) ∧ r.2.mem (spLoc d) = m (spLoc d) ∧ r.2.mem (bpLoc d) = m (bpLoc d)
    ∧ r.2.mem (axLoc d) = m (axLoc d) ∧ r.2.mem (meLoc d) = m (meLoc d)) ∧ r.2.mem ((SparseCore.T d).loc main_v4) = out m d) ∧ r.2.sem = fun _ => 0

theorem program_runs [∀ e, Nonempty (Elt F e)] (hm : MemOK m) :
    θ_run (Cert.KernelIdeal.defs (F := F)) (Cert.KernelIdeal.threads (F := F)) ⟨m, fun _ => 0, ρ⟩ (Ends m) :=
  SparseCore.Cfg.θ_run_sc_quiescent (K := K (F := F)) (D := D) (𝒱 := 𝒱) (EH := EH) (P := P m) (A := ∅) scFacts v₀
    (fun q hq => match q with | 0 => nomatch hq)
    (fun q _ => match q with | 0 => task_obligation m scFacts hm)
    (fun q _ => match q with | 0 => SparseCore.Cfg.VecSplit.of_plain (tasks_split m))
    m ρ main G (kept m) (u₀ (F := F)) (sep_elim_left.trans (launch_ghost m)) (main_runs m ρ) (endsAt m) (ends_of m) (Ends m) (fun _ h hz => ⟨h, hz⟩)

end Cert.Proof.Vm

end
-- ==== Proof.Same.lean ====
/- The kernel and the kernel read at the ideal instance are one program. -/
module

public import proofs.«01_k».proof.Proof.Gen.Kernel
public import proofs.«01_k».proof.Proof.Gen.KernelIdeal

@[expose] public section

noncomputable section

namespace Cert.Proof.Vm

open Idealize.ShloMosaic Idealize.SL.Sem

variable {F : FTy → Type} [FloatOps F]

/-- The two body tables agree at every label on every processor. -/
theorem same_bodies : Cert.Kernel.defs₀ (F := F) = Cert.KernelIdeal.defs₀ (F := F) := by
  funext k l a
  match k, l, a with
  | .scVector c s, ⟨0, _⟩, _ => rfl
  | .tc, ⟨0, _⟩, _ => rfl
  | .scScalar _, ⟨0, _⟩, _ => rfl
  | .scVector c s, ⟨1, _⟩, _ => rfl
  | .tc, ⟨1, _⟩, (t, s) => rfl
  | .scScalar _, ⟨1, _⟩, _ => rfl

theorem same_defs : Cert.Kernel.defs (F := F) = Cert.KernelIdeal.defs (F := F) :=
  congrArg (fun D => (Cert.KernelIdeal.sc (F := F)).defs (Pipeline.defs Cert.KernelIdeal.pcfgs D)) same_bodies

end Cert.Proof.Vm

end
-- ==== Proof.Pre.lean ====
/- What the preconditions say of the argument arrays: the addresses are below 65536, and (where the words are bounded
   too) every word of the memory is a number below 2³⁹ in size. -/
module

public import proofs.«01_k».proof.Defs
public import proofs.«01_k».proof.Proof.Gen.Pre_addresses
public import proofs.«01_k».proof.Proof.Gen.Pre_addresses_and_words
public import proofs.«01_k».proof.Proof.Setup
public import Idealize.ShloMosaic.Lib.ReduceAll
public import Idealize.ShloMosaic.Lib.WordCmp

@[expose] public section

noncomputable section

namespace Cert.Proof.Vm

open Idealize.ShloMosaic

/-- A word whose signed reading is in [0, 65536) is below 65536. -/
theorem word_in_range (x : BitVec 32)
    (h : IntOp.andi (IntOp.cmpi .sge x 0#32) (IntOp.cmpi .slt x 65536#32) = 1#1) : x.toNat < 65536 := by
  obtain ⟨h1, h2⟩ := IntOp.andi_eq_one.1 h
  have e1 := IntOp.cmpi_sge.1 h1
  have e2 := IntOp.cmpi_slt.1 h2
  have z0 : (0#32).toInt = 0 := by decide
  have z1 : (65536#32).toInt = 65536 := by decide
  rw [z0] at e1
  rw [z1] at e2
  rw [BitVec.toInt_eq_toNat_cond] at e1 e2
  have := x.isLt
  split at e1 <;> omega

instance : Subsingleton ((⟨0, ![]⟩ : Shape).Idx) := ⟨fun a b => funext fun i => i.elim0⟩

section Addresses
variable {F : FTy → Type} [FloatOps F] [Cert.Pre_addresses.Facts]

theorem addrOK_of_addresses (pc sp bp : IVec ⟨1, ![256]⟩ 32) (ax : FVec F ⟨1, ![256]⟩ .f32) (me : FVec F ⟨1, ![65536]⟩ .f32)
    (h : Cert.Pre_addresses.fn (F := F) pc sp bp ax me = fun _ => 1#1) : AddrOK pc sp := by
  have h0 := congrFun h ix0
  unfold Cert.Pre_addresses.fn at h0
  obtain ⟨ha, hb⟩ := IntOp.andi_eq_one.1 h0
  intro j
  have hj := Host.reduce_andi_all _ _ _ _ _ ha j
  have hk := Host.reduce_andi_all _ _ _ _ _ hb j
  exact ⟨word_in_range _ hj, word_in_range _ hk⟩

end Addresses

section Words
variable {F : FTy → Type} [FloatOps F] [Cert.Pre_addresses_and_words.Facts]

theorem addrOK_of_words (pc sp bp : IVec ⟨1, ![256]⟩ 32) (ax : FVec F ⟨1, ![256]⟩ .f32) (me : FVec F ⟨1, ![65536]⟩ .f32)
    (h : Cert.Pre_addresses_and_words.fn (F := F) pc sp bp ax me = fun _ => 1#1) : AddrOK pc sp := by
  have h0 := congrFun h ix0
  unfold Cert.Pre_addresses_and_words.fn Cert.Pre_addresses_and_words.fn_part1 at h0
  obtain ⟨hc, _⟩ := IntOp.andi_eq_one.1 h0
  obtain ⟨ha, hb⟩ := IntOp.andi_eq_one.1 hc
  intro j
  have hj := Host.reduce_andi_all _ _ _ _ _ ha j
  have hk := Host.reduce_andi_all _ _ _ _ _ hb j
  exact ⟨word_in_range _ hj, word_in_range _ hk⟩

theorem two39 : Ideal.ofBits .f32 0x53000000#32 = ((2 ^ 39 : ℝ) : EReal) := by
  have e : (2 ^ 39 : ℝ) = 549755813888 := by norm_num
  rw [e]
  simp [Ideal.ofBits, Ideal.ieee, -EReal.coe_mul]
  norm_cast

/-- The words are numbers below 2³⁹ in size. -/
theorem words_of_words (pc sp bp : IVec ⟨1, ![256]⟩ 32) (ax : FVec Ideal ⟨1, ![256]⟩ .f32) (me : FVec Ideal ⟨1, ![65536]⟩ .f32)
    (h : Cert.Pre_addresses_and_words.fn (F := Ideal) pc sp bp ax me = fun _ => 1#1) (j : (⟨1, ![65536]⟩ : Shape).Idx) :
    ∃ x : ℝ, me j = (x : EReal) ∧ -(2 ^ 39) < x ∧ x < 2 ^ 39 := by
  have h0 := congrFun h ix0
  unfold Cert.Pre_addresses_and_words.fn Cert.Pre_addresses_and_words.fn_part1 at h0
  obtain ⟨_, hm⟩ := IntOp.andi_eq_one.1 h0
  have hj := Host.reduce_andi_all _ _ _ _ _ hm j
  have hj' : BitVec.ofBool (decide (max (me j : EReal) (-(me j : EReal)) < Ideal.ofBits .f32 0x53000000#32)) = 1#1 := hj
  have hlt : max (me j : EReal) (-(me j : EReal)) < ((2 ^ 39 : ℝ) : EReal) := by
    by_contra hn
    rw [two39, decide_eq_false hn] at hj'
    exact absurd hj' (by decide)
  obtain ⟨h1, h2⟩ := max_lt_iff.1 hlt
  generalize (me j : EReal) = y at h1 h2 ⊢
  induction y using EReal.rec with
  | bot => simp at h2
  | top => simp at h1
  | coe x =>
    refine ⟨x, rfl, ?_, by exact_mod_cast h1⟩
    have : -x < 2 ^ 39 := by exact_mod_cast h2
    linarith

end Words

end Cert.Proof.Vm

end
-- ==== Proof.Codes.lean ====
module

public import Idealize.ShloMosaic.PureOps.Ideal.Laws
public import Idealize.ShloMosaic.Lib.IdealHost
public import Mathlib.Tactic.Ring
public import Mathlib.Tactic.Linarith

@[expose] public section

noncomputable section

/-
  The ±1 codes of 16-bit addresses, and the softmax over them read with an infinite sharpness.
-/
namespace Cert.Proof.Vm

open Idealize.ShloMosaic
open scoped BigOperators

/-- Bit `k` of a word as a sign: `1` where it is set, `-1` where it is clear. -/
def signAt (x : BitVec 32) (k : Nat) : ℤ := if x.getLsbD k then 1 else -1

/-- The lowest bit left after an arithmetic shift by `k` is bit `k`. -/
theorem bit_of_shift (x : BitVec 32) (k : Nat) (hk : k < 32) :
    IntOp.andi (IntOp.shrsi .host x (BitVec.ofNat 32 k)) 1#32 = if x.getLsbD k then 1#32 else 0#32 := by
  have h : (BitVec.ofNat 32 k).toNat = k := by rw [BitVec.toNat_ofNat]; omega
  unfold IntOp.andi IntOp.shrsi
  rw [if_pos (by omega), BitVec.sshiftRight', h]
  apply BitVec.eq_of_getLsbD_eq
  intro i hi
  rw [BitVec.getLsbD_and, BitVec.getLsbD_sshiftRight]
  by_cases h0 : i = 0
  · subst h0
    cases hb : x.getLsbD k <;> simp only [hb, Nat.zero_add, Nat.add_zero] <;> simp [hb, hk]
  · by_cases hb : x.getLsbD k <;> simp [hb, h0, BitVec.getLsbD_one]

/-- Twice the bit less one is the sign. -/
theorem code_eq (x : BitVec 32) (k : Nat) (hk : k < 32) :
    (2 : EReal) * (((IntOp.andi (IntOp.shrsi .host x (BitVec.ofNat 32 k)) 1#32).toInt : ℝ) : EReal) - 1
      = ((signAt x k : ℝ) : EReal) := by
  rw [bit_of_shift x k hk, signAt]
  by_cases hb : x.getLsbD k
  · rw [if_pos hb, if_pos hb]
    have : (1#32).toInt = 1 := by decide
    rw [this]
    have e : (2 : EReal) = ((2 : ℝ) : EReal) := rfl
    have e1 : (1 : EReal) = ((1 : ℝ) : EReal) := rfl
    rw [e, e1, ← EReal.coe_mul, ← EReal.coe_sub]
    norm_num
  · rw [if_neg hb, if_neg hb]
    have : (0#32).toInt = 0 := by decide
    rw [this]; norm_num

/-- How far two words' codes agree: the sum of the products of their signs. -/
def agreeZ (x y : BitVec 32) : ℤ := ∑ k : Fin 16, signAt x k.val * signAt y k.val

theorem signAt_mul_self (x : BitVec 32) (k : Nat) : signAt x k * signAt x k = 1 := by
  unfold signAt; split <;> rfl

theorem signAt_mul_le (x y : BitVec 32) (k : Nat) : signAt x k * signAt y k ≤ 1 := by
  unfold signAt; split <;> split <;> decide

/-- Words below 65536 that differ differ in one of their low sixteen bits. -/
theorem exists_bit_ne (x y : BitVec 32) (hx : x.toNat < 65536) (hy : y.toNat < 65536) (hne : x ≠ y) :
    ∃ k : Fin 16, x.getLsbD k.val ≠ y.getLsbD k.val := by
  by_contra hcon
  push Not at hcon
  apply hne
  apply BitVec.eq_of_getLsbD_eq
  intro i hi
  by_cases h : i < 16
  · exact hcon ⟨i, h⟩
  · have hp : (65536 : Nat) ≤ 2 ^ i := by
      calc (65536 : Nat) = 2 ^ 16 := by norm_num
        _ ≤ 2 ^ i := Nat.pow_le_pow_right (by norm_num) (by omega)
    rw [BitVec.getLsbD, BitVec.getLsbD, Nat.testBit_lt_two_pow (lt_of_lt_of_le hx hp), Nat.testBit_lt_two_pow (lt_of_lt_of_le hy hp)]

/-- A word agrees with itself in all sixteen places. -/
theorem agreeZ_self (x : BitVec 32) : agreeZ x x = 16 := by
  simp [agreeZ, signAt_mul_self]

/-- Two addresses that differ agree in fewer. -/
theorem agreeZ_lt (x y : BitVec 32) (hx : x.toNat < 65536) (hy : y.toNat < 65536) (hne : x ≠ y) : agreeZ x y < 16 := by
  obtain ⟨k, hk⟩ := exists_bit_ne x y hx hy hne
  have h1 : agreeZ x y < ∑ _k : Fin 16, (1 : ℤ) := by
    refine Finset.sum_lt_sum (fun i _ => signAt_mul_le x y i.val) ⟨k, Finset.mem_univ _, ?_⟩
    unfold signAt
    cases hxk : x.getLsbD k.val <;> cases hyk : y.getLsbD k.val <;> simp [hxk, hyk] at hk ⊢
  simpa using h1

theorem agreeZ_le (x y : BitVec 32) (hx : x.toNat < 65536) (hy : y.toNat < 65536) : agreeZ x y ≤ 16 := by
  by_cases h : x = y
  · rw [h, agreeZ_self]
  · exact (agreeZ_lt x y hx hy h).le

/-- The sum of the codes' products over the extended reals is that integer. -/
theorem sum_codes (x y : BitVec 32) :
    (∑ k : Fin 16, ((signAt x k.val : ℝ) : EReal) * ((signAt y k.val : ℝ) : EReal)) = ((agreeZ x y : ℝ) : EReal) := by
  have h : ∀ s : Finset (Fin 16), (∑ k ∈ s, ((signAt x k.val : ℝ) : EReal) * ((signAt y k.val : ℝ) : EReal))
      = (((∑ k ∈ s, signAt x k.val * signAt y k.val : ℤ) : ℝ) : EReal) := fun s => by
    induction s using Finset.induction_on with
    | empty => simp
    | insert a s ha ih => rw [Finset.sum_insert ha, Finset.sum_insert ha, ih]; push_cast; rfl
  exact h Finset.univ

theorem ofNat_toNat32 (x : BitVec 32) : BitVec.ofNat 32 x.toNat = x := by
  apply BitVec.eq_of_toNat_eq
  rw [BitVec.toNat_ofNat, Nat.mod_eq_of_lt x.isLt]

/-- The largest agreement of an address with the addresses is sixteen. -/
theorem fold_max_agree (x : BitVec 32) (hx : x.toNat < 65536) :
    (Finset.univ : Finset (Fin 65536)).fold max (⊥ : EReal) (fun c => ((agreeZ x (BitVec.ofNat 32 c.val) : ℝ) : EReal)) = ((16 : ℝ) : EReal) := by
  apply le_antisymm
  · rw [Finset.fold_max_le]
    refine ⟨bot_le, fun c _ => ?_⟩
    have := agreeZ_le x (BitVec.ofNat 32 c.val) hx (by rw [BitVec.toNat_ofNat]; omega)
    exact_mod_cast this
  · rw [Finset.le_fold_max]
    refine Or.inr ⟨⟨x.toNat, hx⟩, Finset.mem_univ _, ?_⟩
    have : BitVec.ofNat 32 x.toNat = x := ofNat_toNat32 x
    simp only [this, agreeZ_self]
    norm_num

/-- With an infinite sharpness the exponential of the shifted agreement is one at the address and zero elsewhere. -/
theorem exp_sharp (x : BitVec 32) (hx : x.toNat < 65536) (c : Fin 65536) :
    Ideal.exp ((⊤ : EReal) * (((agreeZ x (BitVec.ofNat 32 c.val) : ℝ) : EReal) - ((16 : ℝ) : EReal)))
      = if BitVec.ofNat 32 c.val = x then 1 else 0 := by
  rw [← EReal.coe_sub]
  by_cases h : BitVec.ofNat 32 c.val = x
  · rw [if_pos h, h, agreeZ_self]
    norm_num
    show ((Real.exp 0 : ℝ) : EReal) = 1
    simp
  · rw [if_neg h]
    have hlt := agreeZ_lt x (BitVec.ofNat 32 c.val) hx (by rw [BitVec.toNat_ofNat]; omega) (Ne.symm h)
    have hneg : ((agreeZ x (BitVec.ofNat 32 c.val) : ℝ) - 16) < 0 := by
      have : (agreeZ x (BitVec.ofNat 32 c.val) : ℝ) < 16 := by exact_mod_cast hlt
      linarith
    rw [EReal.top_mul_coe_of_neg hneg]
    rfl

/-- A sum over the addresses weighted by a one-hot row is the entry at the address. -/
theorem sum_onehot (x : BitVec 32) (hx : x.toNat < 65536) (f : Fin 65536 → EReal) :
    (∑ c : Fin 65536, (if BitVec.ofNat 32 c.val = x then (1 : EReal) else 0) * f c) = f ⟨x.toNat, hx⟩ := by
  rw [Finset.sum_eq_single (⟨x.toNat, hx⟩ : Fin 65536)]
  · rw [if_pos (ofNat_toNat32 x), one_mul]
  · intro c _ hc
    rw [if_neg, zero_mul]
    intro h
    apply hc
    apply Fin.ext
    have := congrArg BitVec.toNat h
    rw [BitVec.toNat_ofNat] at this
    have := c.isLt
    show c.val = x.toNat
    omega
  · exact fun h => absurd (Finset.mem_univ _) h

/-- The one-hot row sums to one. -/
theorem sum_onehot_one (x : BitVec 32) (hx : x.toNat < 65536) :
    (∑ c : Fin 65536, (if BitVec.ofNat 32 c.val = x then (1 : EReal) else 0)) = 1 := by
  have := sum_onehot x hx (fun _ => 1)
  simp only [mul_one] at this
  exact this

/-- Dividing by one changes nothing. -/
theorem div_one_eq (x : EReal) : Ideal.div x 1 = x := by
  unfold Ideal.div
  rw [if_neg one_ne_zero, inv_one, mul_one]

/-- Whether one weight is one or zero, mixing a finite entry with a result picks one of them. -/
theorem mix (p : Prop) [Decidable p] (m r : EReal) :
    m * (1 - (if p then (1 : EReal) else 0)) + r * (if p then (1 : EReal) else 0) = if p then r else m := by
  by_cases h : p
  · have e : (1 : EReal) - 1 = 0 := by rw [← EReal.coe_one, ← EReal.coe_sub, sub_self, EReal.coe_zero]
    rw [if_pos h, if_pos h, e, mul_zero, mul_one, zero_add]
  · rw [if_neg h, if_neg h, sub_zero, mul_one, mul_zero, add_zero]

end Cert.Proof.Vm

end
-- ==== Proof.Attend.lean ====
/- The reference's kernel at the ideal values, read at an index: the exponentials of an address's row are one at the
   address and zero elsewhere, so the row's weights are one-hot, a read is the memory at the address, and the result
   is the memory with a row's result at the row's stack address. -/
module

public import proofs.«01_k».proof.Proof.Gen.ReferenceIdeal.Value
public import proofs.«01_k».proof.Proof.Codes
public import Idealize.ShloMosaic.Lib.MatmulPlain
public import Idealize.ShloMosaic.Lib.Pointwise
public import Idealize.ShloMosaic.Lib.ValueIdxCore

@[expose] public section

noncomputable section

namespace Cert.Proof.Vm

open Cert.ReferenceIdeal Cert.ReferenceIdeal.Gen
open Idealize.ShloMosaic
open scoped BigOperators

/-- A block of 256 codes is the codes of the words `a`. -/
def IsCodes {n : Nat} (v : (⟨2, ![n, 16]⟩ : Shape).Idx → EReal) (a : Fin n → BitVec 32) : Prop :=
  ∀ r k, v (ix2 r k) = ((signAt (a r) k.val : ℝ) : EReal)

/-- The column of 256 numbers, read at a row. -/
theorem column_apply {α : Type} (x : S256.Idx → α) (b : Fin 256) (z : Fin 1) :
    shapeCast S256x1 x shapeCasts_S256_S256x1 (ix2 b z) = x (ix1 b) :=
  shapeCast_apply _ _ _ _ (by
    rw [Shape.rowMajor_val_one, Shape.rowMajor_val_two]; show b.val = b.val * 1 + z.val; have := z.isLt; omega)

/-- A column repeated over the addresses, read at a row and an address. -/
theorem spread_apply {α : Type} (x : S256x1.Idx → α) (b : Fin 256) (c : Fin 65536) :
    broadcastTo S256x65536 x broadcasts_S256x1_S256x65536 (ix2 b c) = x (ix2 b (0 : Fin 1)) :=
  broadcastTo_apply _ _ _ _ (fun a => match a with
    | ⟨0, _⟩ => by show b.val = (if (256 : Nat) = 1 then 0 else b.val); rw [if_neg (by decide)]
    | ⟨1, _⟩ => by show 0 = (if (1 : Nat) = 1 then 0 else c.val); rw [if_pos rfl])

/-- The memory's row repeated over the programs, read at a row and an address. -/
theorem rows_apply {α : Type} (x : S1x65536.Idx → α) (b : Fin 256) (c : Fin 65536) :
    broadcastTo S256x65536 x broadcasts_S1x65536_S256x65536 (ix2 b c) = x (ix2 (0 : Fin 1) c) :=
  broadcastTo_apply _ _ _ _ (fun a => match a with
    | ⟨0, _⟩ => by show 0 = (if (1 : Nat) = 1 then 0 else b.val); rw [if_pos rfl]
    | ⟨1, _⟩ => by show c.val = (if (65536 : Nat) = 1 then 0 else c.val); rw [if_neg (by decide)])

/-- The index a reduction over the addresses reads at a row. -/
theorem lift_eq (b : Fin 256) (c : Fin 65536) :
    (reduces_S256x65536_S256 : Shape.Reduces S256x65536 [1] S256).lift (ix1 b) c = ix2 b c := by
  funext a; apply Fin.ext
  match a with
  | ⟨0, _⟩ => rfl
  | ⟨1, _⟩ => rfl

/-- A row's sum. -/
theorem sum_apply (x : FVec Ideal S256x65536 .f32) (b : Fin 256) :
    multiReduction .add [1] S256 x 0x00000000#32 reduces_S256x65536_S256 (.inl rfl) rfl (ix1 b)
      = ∑ c : Fin 65536, x (ix2 b c) :=
  (Ideal.multiReduction_add_single x _ _ _ _ _).trans (Finset.sum_congr rfl fun c _ => by
    exact congrArg x (lift_eq b c))

theorem ofBits_neg_inf : Ideal.ofBits .f32 0xFF800000#32 = ⊥ := by simp [Ideal.ofBits, Ideal.ieee]

/-- A row's maximum. -/
theorem max_apply (x : FVec Ideal S256x65536 .f32) (b : Fin 256) :
    multiReduction .maximumf [1] S256 x 0xFF800000#32 reduces_S256x65536_S256 (.inl rfl) rfl (ix1 b)
      = (Finset.univ : Finset (Fin 65536)).fold max (⊥ : EReal) (fun c => x (ix2 b c)) := by
  refine (Ideal.multiReduction_maximumf_single x _ _ _ _ _).trans ?_
  have e : (x ∘ (reduces_S256x65536_S256 : Shape.Reduces S256x65536 [1] S256).lift (ix1 b)) = fun c : Fin 65536 => x (ix2 b c) :=
    funext fun c => congrArg x (lift_eq b c)
  rw [e]
  show Finset.fold max (Ideal.ofBits .f32 0xFF800000#32) _ _ = _
  rw [ofBits_neg_inf]
  rfl

/-- The agreements of 256 coded words with the coded addresses. -/
theorem agree_apply (v : FVec Ideal S256x16 .f32) (w : FVec Ideal S65536x16 .f32) (a : Fin 256 → BitVec 32)
    (hv : IsCodes v a) (hw : IsCodes w (fun c => BitVec.ofNat 32 c.val)) (b : Fin 256) (c : Fin 65536) :
    matmul dot_S256x16_S65536x16_S256x65536_1_1_0_0_n_n none v w (constant S256x65536 .f32 0x00000000#32) (ix2 b c)
      = ((agreeZ (a b) (BitVec.ofNat 32 c.val) : ℝ) : EReal) := by
  refine (Ideal.matmul_transposedRhs_apply (M := 256) (K := 16) (N := 65536) none v w _ b c).trans ?_
  show Ideal.ofBits .f32 0x00000000#32 + _ = _
  rw [Ideal.ofBits_zero_f32, zero_add, ← sum_codes]
  exact Finset.sum_congr rfl fun k _ => congrArg₂ (· * ·) (hv b k) (hw c k)

/-- The sharpness is infinite here. -/
theorem beta_top : (Named.named (F := Ideal) κ "beta" (φ := .f32) 0x41C80000#32 : EReal) = ⊤ := rfl

/-- The exponentials of a row: one at the row's address, zero elsewhere. -/
theorem k0_pay6_apply (v : FVec Ideal S256x16 .f32) (w : FVec Ideal S65536x16 .f32) (a : Fin 256 → BitVec 32)
    (hv : IsCodes v a) (hw : IsCodes w (fun c => BitVec.ofNat 32 c.val)) (ha : ∀ b, (a b).toNat < 65536)
    (b : Fin 256) (c : Fin 65536) :
    k0_pay6 (F := Ideal) v w (ix2 b c) = if BitVec.ofNat 32 c.val = a b then (1 : EReal) else 0 := by
  unfold k0_pay6
  simp only [shapeCast_id]
  show Ideal.exp ((Named.named (F := Ideal) κ "beta" (φ := .f32) 0x41C80000#32 : EReal)
    * (matmul dot_S256x16_S65536x16_S256x65536_1_1_0_0_n_n none v w (constant S256x65536 .f32 0x00000000#32) (ix2 b c)
      - broadcastTo S256x65536 (shapeCast S256x1 (multiReduction .maximumf [1] S256
          (matmul dot_S256x16_S65536x16_S256x65536_1_1_0_0_n_n none v w (constant S256x65536 .f32 0x00000000#32))
          0xFF800000#32 reduces_S256x65536_S256 (.inl rfl) rfl) shapeCasts_S256_S256x1) broadcasts_S256x1_S256x65536 (ix2 b c))) = _
  rw [beta_top, spread_apply, column_apply, max_apply, agree_apply v w a hv hw]
  have e : (fun c => matmul dot_S256x16_S65536x16_S256x65536_1_1_0_0_n_n none v w (constant S256x65536 .f32 0x00000000#32) (ix2 b c))
      = fun c : Fin 65536 => ((agreeZ (a b) (BitVec.ofNat 32 c.val) : ℝ) : EReal) := funext fun c => agree_apply v w a hv hw b c
  rw [e, fold_max_agree _ (ha b), exp_sharp _ (ha b)]

/-- The weights of a row: the exponentials over their sum. -/
def weights (e : FVec Ideal S256x65536 .f32) : FVec Ideal S256x65536 .f32 :=
  divf e (broadcastTo S256x65536 (shapeCast S256x1 (multiReduction .add [1] S256 e 0x00000000#32 reduces_S256x65536_S256
    (.inl rfl) rfl) shapeCasts_S256_S256x1) broadcasts_S256x1_S256x65536)

/-- A quotient is taken element by element. -/
theorem divf_at {s : Shape} (x y : FVec Ideal s .f32) (i : s.Idx) : divf x y i = Ideal.div (x i) (y i) := rfl

/-- One-hot exponentials are their own weights. -/
theorem weights_apply (e : FVec Ideal S256x65536 .f32) (a : Fin 256 → BitVec 32) (ha : ∀ b, (a b).toNat < 65536)
    (he : ∀ b c, e (ix2 b c) = if BitVec.ofNat 32 c.val = a b then (1 : EReal) else 0) (b : Fin 256) (c : Fin 65536) :
    weights e (ix2 b c) = if BitVec.ofNat 32 c.val = a b then (1 : EReal) else 0 := by
  unfold weights
  rw [divf_at]
  rw [spread_apply, column_apply, sum_apply]
  have e1 : (∑ c : Fin 65536, e (ix2 b c)) = 1 :=
    (Finset.sum_congr rfl fun c _ => he b c).trans (sum_onehot_one _ (ha b))
  rw [e1, div_one_eq, he]

/-- What a row reads of the memory under its weights. -/
def readOf (e : FVec Ideal S256x65536 .f32) (me : FVec Ideal S1x65536 .f32) : FVec Ideal S256x1 .f32 :=
  shapeCast S256x1 (multiReduction .add [1] S256 (mulf (weights e) (broadcastTo S256x65536 me broadcasts_S1x65536_S256x65536))
    0x00000000#32 reduces_S256x65536_S256 (.inl rfl) rfl) shapeCasts_S256_S256x1

/-- Under one-hot weights that is the memory at the address. -/
theorem readOf_apply (e : FVec Ideal S256x65536 .f32) (me : FVec Ideal S1x65536 .f32) (a : Fin 256 → BitVec 32)
    (ha : ∀ b, (a b).toNat < 65536)
    (he : ∀ b c, e (ix2 b c) = if BitVec.ofNat 32 c.val = a b then (1 : EReal) else 0) (b : Fin 256) (z : Fin 1) :
    readOf e me (ix2 b z) = me (ix2 (0 : Fin 1) ⟨(a b).toNat, ha b⟩) := by
  unfold readOf
  rw [column_apply, sum_apply]
  refine (Finset.sum_congr rfl fun c _ => ?_).trans (sum_onehot (a b) (ha b) fun c => me (ix2 (0 : Fin 1) c))
  show weights e (ix2 b c) * broadcastTo S256x65536 me broadcasts_S1x65536_S256x65536 (ix2 b c) = _
  rw [weights_apply e a ha he, rows_apply]

/-- One two hundred and fifty-sixth. -/
def inv256 : EReal := Ideal.ofBits .f32 0x3B800000#32

/-- A floor of a scaled column is taken element by element. -/
theorem floor_scaled_at {s : Shape} (x : FVec Ideal s .f32) (c : Ideal .f32) (i : s.Idx) :
    floor (mulf x (broadcast s c)) i = Ideal.liftRound Int.floor (x i * c) := rfl

/-- The reference's block, read at a row and an address. -/
theorem body_apply (P0 : FVec Ideal S1x65536 .f32) (P1 : FVec Ideal S256x16 .f32) (P2 : FVec Ideal S65536x16 .f32)
    (P3 : FVec Ideal S256x16 .f32) (P4 : FVec Ideal S256x1 .f32) (pc sp : Fin 256 → BitVec 32)
    (h3 : IsCodes P3 pc) (h1 : IsCodes P1 sp) (h2 : IsCodes P2 (fun c => BitVec.ofNat 32 c.val))
    (hpc : ∀ b, (pc b).toNat < 65536) (hsp : ∀ b, (sp b).toNat < 65536) (b : Fin 256) (c : Fin 65536) :
    k0_pay1 (F := Ideal) (k0_pay2 P0) (k0_pay4 P0 P3 P2) (k0_pay5 P0 P3 P2) (k0_pay6 P1 P2) P4 (ix2 b c)
      = if BitVec.ofNat 32 c.val = sp b then
          P0 (ix2 (0 : Fin 1) ⟨(sp b).toNat, hsp b⟩)
            + Ideal.liftRound Int.floor (P0 (ix2 (0 : Fin 1) ⟨(pc b).toNat, hpc b⟩) * inv256)
        else P0 (ix2 (0 : Fin 1) c) := by
  have hp2 : k0_pay2 (F := Ideal) P0 = P0 := by unfold k0_pay2; simp only [shapeCast_id]
  have hp3 : k0_pay3 (F := Ideal) P0 P3 P2 = readOf (k0_pay6 P3 P2) P0 := by
    unfold k0_pay3; rw [hp2]; rfl
  have he1 := k0_pay6_apply P1 P2 sp h1 h2 hsp
  have he3 := k0_pay6_apply P3 P2 pc h3 h2 hpc
  have h4 : k0_pay4 (F := Ideal) P0 P3 P2 (ix2 b (0 : Fin 1))
      = Ideal.liftRound Int.floor (P0 (ix2 (0 : Fin 1) ⟨(pc b).toNat, hpc b⟩) * inv256) := by
    unfold k0_pay4; rw [hp3]
    rw [floor_scaled_at, readOf_apply _ P0 pc hpc he3]
    rfl
  rw [hp2]
  unfold k0_pay1
  simp only [shapeCast_id]
  show broadcastTo S256x65536 P0 broadcasts_S1x65536_S256x65536 (ix2 b c)
        * (Ideal.ofBits .f32 0x3F800000#32 - weights (k0_pay6 P1 P2) (ix2 b c))
      + broadcastTo S256x65536 (addf (addf (addf (readOf (k0_pay6 P1 P2) P0) (k0_pay4 P0 P3 P2))
          (mulf (broadcast S256x1 (Scalar.ofBits .f32 0x00000000#32)) P4))
          (mulf (broadcast S256x1 (Scalar.ofBits .f32 0x00000000#32)) (k0_pay5 P0 P3 P2))) broadcasts_S256x1_S256x65536 (ix2 b c)
        * weights (k0_pay6 P1 P2) (ix2 b c) = _
  rw [weights_apply _ sp hsp he1, rows_apply, spread_apply, Ideal.ofBits_one_f32, mix]
  show (if _ then ((readOf (k0_pay6 P1 P2) P0 (ix2 b (0 : Fin 1)) + k0_pay4 P0 P3 P2 (ix2 b (0 : Fin 1)))
        + Ideal.ofBits .f32 0x00000000#32 * P4 (ix2 b (0 : Fin 1)))
        + Ideal.ofBits .f32 0x00000000#32 * k0_pay5 P0 P3 P2 (ix2 b (0 : Fin 1)) else _) = _
  rw [Ideal.ofBits_zero_f32, zero_mul, zero_mul, add_zero, add_zero, h4, readOf_apply _ P0 sp hsp he1]

end Cert.Proof.Vm

end
-- ==== Proof.Floor.lean ====
/- A lane of the kernel at the ideal values: the truncation, lowered by one where it exceeds the number, is the floor of
   a number whose truncation fits a 32-bit word. -/
module

public import proofs.«01_k».proof.Proof.Setup
public import proofs.«01_k».proof.Proof.Attend

@[expose] public section

noncomputable section

namespace Cert.Proof.Vm

open Idealize.ShloMosaic

theorem inv256_eq : inv256 = ((1 / 256 : ℝ) : EReal) := by
  unfold inv256
  simp [Ideal.ofBits, Ideal.ieee, -EReal.coe_mul]
  norm_num

/-- The truncation toward zero, lowered by one where it exceeds the number, is the floor. -/
theorem floor_of_trunc (r : ℝ) :
    (if r < ((if 0 ≤ r then ⌊r⌋ else ⌈r⌉ : ℤ) : ℝ) then (if 0 ≤ r then ⌊r⌋ else ⌈r⌉) - 1 else (if 0 ≤ r then ⌊r⌋ else ⌈r⌉)) = ⌊r⌋ := by
  by_cases h0 : 0 ≤ r
  · rw [if_pos h0, if_neg (not_lt.2 (Int.floor_le r))]
  · rw [if_neg h0]
    by_cases h1 : r < (⌈r⌉ : ℝ)
    · rw [if_pos h1]
      symm
      rw [Int.floor_eq_iff]
      push_cast
      have := Int.ceil_lt_add_one r
      constructor <;> linarith
    · rw [if_neg h1]
      symm
      rw [Int.floor_eq_iff]
      have := Int.le_ceil r
      constructor <;> linarith

/-- The truncation of a number below 2³¹ in size survives its word. -/
theorem word_of_trunc (r : ℝ) (h1 : -(2 ^ 31) < r) (h2 : r < 2 ^ 31) :
    (Ideal.fptosi 32 (r : EReal)).toInt = if 0 ≤ r then ⌊r⌋ else ⌈r⌉ := by
  have hlo : (-(2 : ℤ) ^ 31) ≤ (if 0 ≤ r then ⌊r⌋ else ⌈r⌉) := by
    split
    · rw [Int.le_floor]; push_cast; linarith
    · have : (-(2 : ℝ) ^ 31) ≤ (⌈r⌉ : ℝ) := h1.le.trans (Int.le_ceil r)
      exact_mod_cast this
  have hhi : (if 0 ≤ r then ⌊r⌋ else ⌈r⌉) ≤ (2 : ℤ) ^ 31 - 1 := by
    split
    · have : (⌊r⌋ : ℝ) < (2 : ℝ) ^ 31 := (Int.floor_le r).trans_lt h2
      have : ⌊r⌋ < (2 : ℤ) ^ 31 := by exact_mod_cast this
      omega
    · rename_i h
      have h' : ⌈r⌉ ≤ 0 := by rw [Int.ceil_le]; push_cast; linarith
      have : (0 : ℤ) ≤ (2 : ℤ) ^ 31 - 1 := by norm_num
      omega
  unfold Ideal.fptosi
  have e : Ideal.toIntClamped (-(2 ^ (32 - 1) : Nat)) ((2 ^ (32 - 1) : Nat) - 1) (r : EReal) = if 0 ≤ r then ⌊r⌋ else ⌈r⌉ := by
    show max (-(2 ^ (32 - 1) : Nat) : ℤ) (min (((2 ^ (32 - 1) : Nat) : ℤ) - 1) (if 0 ≤ r then ⌊r⌋ else ⌈r⌉)) = _
    generalize (if 0 ≤ r then ⌊r⌋ else ⌈r⌉) = z at hlo hhi ⊢
    norm_num at hlo hhi ⊢
    omega
  rw [e, BitVec.toInt_ofInt]
  generalize (if 0 ≤ r then ⌊r⌋ else ⌈r⌉) = z at hlo hhi ⊢
  norm_num at hlo hhi
  rw [Int.bmod_def]
  split <;> omega

/-- Lowering an integer by one where it exceeds a number. -/
theorem lowered (z : ℤ) (r : ℝ) :
    Scalar.select (Ideal.cmp .ogt ((z : ℝ) : EReal) (r : EReal)) (((z : ℝ) : EReal) - 1) ((z : ℝ) : EReal)
      = (((if r < (z : ℝ) then z - 1 else z : ℤ) : ℝ) : EReal) := by
  by_cases h : r < (z : ℝ)
  · have hc : Ideal.cmp .ogt ((z : ℝ) : EReal) (r : EReal) = 1#1 := by simp [Ideal.cmp, h]
    rw [hc, if_pos h]
    show ((z : ℝ) : EReal) - 1 = _
    rw [← EReal.coe_one, ← EReal.coe_sub]
    push_cast
    rfl
  · have hc : Ideal.cmp .ogt ((z : ℝ) : EReal) (r : EReal) = 0#1 := by simp [Ideal.cmp, h]
    rw [hc, if_neg h]
    rfl

/-- A lane of the kernel: the stack word plus the floor of the instruction word over 256. -/
theorem lane_eq (x : ℝ) (y : EReal) (h1 : -(2 ^ 39) < x) (h2 : x < 2 ^ 39) :
    lane (F := Ideal) (x : EReal) y = y + Ideal.liftRound Int.floor ((x : EReal) * inv256) := by
  have e : (x : EReal) * inv256 = ((x * (1 / 256) : ℝ) : EReal) := by rw [inv256_eq, EReal.coe_mul]
  have hr1 : -(2 ^ 31) < x * (1 / 256) := by norm_num at h1 ⊢; linarith
  have hr2 : x * (1 / 256) < 2 ^ 31 := by norm_num at h2 ⊢; linarith
  have ht := word_of_trunc _ hr1 hr2
  have hl : lane (F := Ideal) (x : EReal) y
      = y + Scalar.select (Ideal.cmp .ogt (((Ideal.fptosi 32 ((x : EReal) * inv256)).toInt : ℝ) : EReal) ((x : EReal) * inv256))
          ((((Ideal.fptosi 32 ((x : EReal) * inv256)).toInt : ℝ) : EReal) - Ideal.ofBits .f32 0x3F800000#32)
          (((Ideal.fptosi 32 ((x : EReal) * inv256)).toInt : ℝ) : EReal) := by
    unfold lane Cert.KernelIdeal.Gen.k0_pay1
    simp only [shapeCast_id]
    rfl
  rw [hl, e, ht, Ideal.ofBits_one_f32, Ideal.liftRound_coe]
  rw [lowered, floor_of_trunc]

end Cert.Proof.Vm

end
-- ==== Proof.Reference.lean ====
/- The reference's run: its one region has one point, whose windows are whole arrays, so the result array is the body's
   block of the arrays the operations before the region computed. -/
module

public import proofs.«01_k».proof.Proof.Attend
public import proofs.«01_k».proof.Proof.Floor
public import proofs.«01_k».proof.Proof.Pre

@[expose] public section

noncomputable section

namespace Cert.Proof.Vm

open Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

theorem iblk0 (c : Dev nD) : iblk m c 0 t0_0 = V m c main_v12 := by
  funext x
  refine congrArg (V m c main_v12) (funext fun a => Fin.ext ?_)
  match a with
  | ⟨0, _⟩ => show 0 * 256 + 1 * (x 0).val = (x 0).val; omega
  | ⟨1, _⟩ => show 0 * 16 + 1 * (x 1).val = (x 1).val; omega

theorem iblk1 (c : Dev nD) : iblk m c 1 t0_0 = V m c main_v25 := by
  funext x
  refine congrArg (V m c main_v25) (funext fun a => Fin.ext ?_)
  match a with
  | ⟨0, _⟩ => show 0 * 256 + 1 * (x 0).val = (x 0).val; omega
  | ⟨1, _⟩ => show 0 * 16 + 1 * (x 1).val = (x 1).val; omega

theorem iblk2 (c : Dev nD) : iblk m c 2 t0_0 = V m c main_v39 := by
  funext x
  refine congrArg (V m c main_v39) (funext fun a => Fin.ext ?_)
  match a with
  | ⟨0, _⟩ => show 0 * 65536 + 1 * (x 0).val = (x 0).val; omega
  | ⟨1, _⟩ => show 0 * 16 + 1 * (x 1).val = (x 1).val; omega

theorem iblk3 (c : Dev nD) : iblk m c 3 t0_0 = V m c main_v40 := by
  funext x
  refine congrArg (V m c main_v40) (funext fun a => Fin.ext ?_)
  match a with
  | ⟨0, _⟩ => show 0 * 256 + 1 * (x 0).val = (x 0).val; omega
  | ⟨1, _⟩ => show 0 * 1 + 1 * (x 1).val = (x 1).val; omega

theorem iblk4 (c : Dev nD) : iblk m c 4 t0_0 = V m c main_v41 := by
  funext x
  refine congrArg (V m c main_v41) (funext fun a => Fin.ext ?_)
  match a with
  | ⟨0, _⟩ => show 0 * 1 + 1 * (x 0).val = (x 0).val; omega
  | ⟨1, _⟩ => show 0 * 65536 + 1 * (x 1).val = (x 1).val; omega

/-- What the body leaves, of the five arrays: one store of the whole block. -/
theorem stored_eq (x0 x1 : Vec Ideal S256x16 .f32) (x2 : Vec Ideal S65536x16 .f32) (x3 : Vec Ideal S256x1 .f32) (x4 : Vec Ideal S1x65536 .f32) :
    out0_5 (F := Ideal) x0 x1 x2 x3 x4 = k0_pay1 (k0_pay2 x4) (k0_pay4 x4 x0 x2) (k0_pay5 x4 x0 x2) (k0_pay6 x1 x2) x3 := by
  have z : (![0, 0] : Fin 2 → Nat) = fun _ => 0 := by funext a; match a with | ⟨0, _⟩ => rfl | ⟨1, _⟩ => rfl
  unfold out0_5
  rw [View.ld_unit_zero z, View.ld_unit_zero z, View.ld_unit_zero z, View.ld_unit_zero z, View.ld_unit_zero z, View.canon_unit_zero z]

/-- The result's window reads back the whole array. -/
theorem read5 (A : Vec Ideal S256x65536 .f32) : ((cfg0.win 5).blk t0_0).view.read (Elt Ideal) A = A := by
  funext x
  refine congrArg A (funext fun a => Fin.ext ?_)
  match a with
  | ⟨0, _⟩ => show 0 * 256 + 1 * (x 0).val = (x 0).val; omega
  | ⟨1, _⟩ => show 0 * 65536 + 1 * (x 1).val = (x 1).val; omega

/-- Nothing of the result's one block lies outside the array. -/
theorem cut5 (A : Vec Ideal S256x65536 .f32) : (cfg0.win 5).cut (grid0.coords t0_0) A = A := rfl

/-- The result array after the run. -/
theorem result_eq (c : Dev nD) : (dats m 0 c).arrAt 5 cfg0.N
    = k0_pay1 (k0_pay2 (V m c main_v41)) (k0_pay4 (V m c main_v41) (V m c main_v12) (V m c main_v39))
        (k0_pay5 (V m c main_v41) (V m c main_v12) (V m c main_v39)) (k0_pay6 (V m c main_v25) (V m c main_v39)) (V m c main_v40) := by
  have h := Cert.ReferenceIdeal.Value.blocks5 m c t0_0 (flush0_5 _)
  rw [Cert.ReferenceIdeal.Value.flushed5, iblk0, iblk1, iblk2, iblk3, iblk4, stored_eq] at h
  exact (read5 _).symm.trans (h.trans (cut5 _))

/-! ## The arrays the operations before the region compute -/

theorem V41 (c : Dev nD) : V m c main_v41 = shapeCast S1x65536 (m ((c : Thread nD τ).loc main_arg4)) shapeCasts_S65536_S1x65536 := by
  unfold V
  after_results_simp
  rfl

theorem two_f32 : Ideal.ofBits .f32 0x40000000#32 = (2 : EReal) := by
  have e : (2 : EReal) = ((2 : ℝ) : EReal) := rfl
  rw [e]
  simp [Ideal.ofBits, Ideal.ieee, -EReal.coe_mul]
  norm_num

/-- A code's entry, of the two words it is computed from. -/
theorem code_at (a p x q : BitVec 32) (k : Fin 16) (h1 : a = x) (h2 : p = BitVec.ofNat 32 k.val) (h3 : q = 1#32) :
    Ideal.ofBits .f32 0x40000000#32 * (((IntOp.andi (IntOp.shrsi .host a p) q).toInt : ℝ) : EReal) - Ideal.ofBits .f32 0x3F800000#32
      = ((signAt x k.val : ℝ) : EReal) := by
  rw [h1, h2, h3, two_f32, Ideal.ofBits_one_f32]
  exact code_eq x k.val (by omega)

/-- The bits' numbers, one row for each of the words. -/
theorem places256 (r : Fin 256) (k : Fin 16) : (broadcastInDim S256x16 ![0, 1] bcast_S1x16_S256x16_0_1
    (broadcastInDim S1x16 ![1] bcast_S16_S1x16_1 (iotaInDim S16 32 0))) (ix2 r k) = BitVec.ofNat 32 k.val := by
  rw [broadcastInDim_apply _ _ _ _ (ix2 0 k) (by intro a; match a with | ⟨0, _⟩ => rfl | ⟨1, _⟩ => rfl),
    broadcastInDim_apply _ _ _ _ (ix1 k) (by intro a; match a with | ⟨0, _⟩ => rfl)]
  rfl

theorem places65536 (r : Fin 65536) (k : Fin 16) : (broadcastInDim S65536x16 ![0, 1] bcast_S1x16_S65536x16_0_1
    (broadcastInDim S1x16 ![1] bcast_S16_S1x16_1 (iotaInDim S16 32 0))) (ix2 r k) = BitVec.ofNat 32 k.val := by
  rw [broadcastInDim_apply _ _ _ _ (ix2 0 k) (by intro a; match a with | ⟨0, _⟩ => rfl | ⟨1, _⟩ => rfl),
    broadcastInDim_apply _ _ _ _ (ix1 k) (by intro a; match a with | ⟨0, _⟩ => rfl)]
  rfl

/-- The words, one column for each of the bits. -/
theorem words256 (x : IVec S256 32) (r : Fin 256) (k : Fin 16) : (broadcastInDim S256x16 ![0, 1] bcast_S256x1_S256x16_0_1
    (broadcastInDim S256x1 ![0] bcast_S256_S256x1_0 x)) (ix2 r k) = x (ix1 r) := by
  rw [broadcastInDim_apply _ _ _ _ (ix2 r 0) (by intro a; match a with | ⟨0, _⟩ => rfl | ⟨1, _⟩ => rfl),
    broadcastInDim_apply _ _ _ _ (ix1 r) (by intro a; match a with | ⟨0, _⟩ => rfl)]

theorem words65536 (x : IVec S65536 32) (r : Fin 65536) (k : Fin 16) : (broadcastInDim S65536x16 ![0, 1] bcast_S65536x1_S65536x16_0_1
    (broadcastInDim S65536x1 ![0] bcast_S65536_S65536x1_0 x)) (ix2 r k) = x (ix1 r) := by
  rw [broadcastInDim_apply _ _ _ _ (ix2 r 0) (by intro a; match a with | ⟨0, _⟩ => rfl | ⟨1, _⟩ => rfl),
    broadcastInDim_apply _ _ _ _ (ix1 r) (by intro a; match a with | ⟨0, _⟩ => rfl)]

theorem V12 (c : Dev nD) : IsCodes (V m c main_v12) (fun b => m ((c : Thread nD τ).loc main_arg0) (ix1 b)) := by
  unfold V
  after_results_simp
  exact fun r k => code_at _ _ _ _ k (words256 _ r k) (places256 r k) rfl

theorem V25 (c : Dev nD) : IsCodes (V m c main_v25) (fun b => m ((c : Thread nD τ).loc main_arg1) (ix1 b)) := by
  unfold V
  after_results_simp
  exact fun r k => code_at _ _ _ _ k (words256 _ r k) (places256 r k) rfl

theorem V39 (c : Dev nD) : IsCodes (V m c main_v39) (fun a : Fin 65536 => BitVec.ofNat 32 a.val) := by
  unfold V
  after_results_simp
  exact fun r k => code_at _ _ _ _ k (words65536 _ r k) (places65536 r k) rfl

theorem V41_apply (c : Dev nD) (z : Fin 1) (a : Fin 65536) : V m c main_v41 (ix2 z a) = m ((c : Thread nD τ).loc main_arg4) (ix1 a) := by
  rw [V41]
  refine shapeCast_apply _ _ _ _ ?_
  rw [Shape.rowMajor_val_two]
  refine (Shape.rowMajor_val_one ..).trans ?_
  show a.val = z.val * 65536 + a.val
  have := z.isLt
  omega

/-- The reference's result is the kernel's, where the addresses name words of the memory and the words are small numbers. -/
theorem reference_out (c : Dev nD) (pc sp : S256.Idx → BitVec 32) (me : S65536.Idx → EReal)
    (h0 : m ((c : Thread nD τ).loc main_arg0) = pc) (h1 : m ((c : Thread nD τ).loc main_arg1) = sp)
    (h4 : m ((c : Thread nD τ).loc main_arg4) = me) (ok : AddrOK pc sp)
    (small : ∀ j, ∃ x : ℝ, me j = (x : EReal) ∧ -(2 ^ 39) < x ∧ x < 2 ^ 39) :
    (dats m 0 c).arrAt 5 cfg0.N = outOf (F := Ideal) pc sp me := by
  rw [result_eq]
  funext j
  obtain ⟨b, a, rfl⟩ : ∃ (b : Fin 256) (a : Fin 65536), j = ix2 b a :=
    ⟨j 0, j 1, by funext a; match a with | ⟨0, _⟩ => rfl | ⟨1, _⟩ => rfl⟩
  have c0 := V12 m c
  have c1 := V25 m c
  have e4 := V41_apply m c
  simp only [h0] at c0
  simp only [h1] at c1
  simp only [h4] at e4
  have hv := body_apply (V m c main_v41) (V m c main_v25) (V m c main_v39) (V m c main_v12) (V m c main_v40) (fun b => pc (ix1 b))
    (fun b => sp (ix1 b)) c0 c1 (V39 m c) (fun b => (ok _).1) (fun b => (ok _).2) b a
  rw [e4, e4, e4] at hv
  refine hv.trans ?_
  show _ = if BitVec.ofNat 32 a.val = sp (ix1 b) then lane (F := Ideal) (wordAt (F := Ideal) me (pc (ix1 b))) (wordAt (F := Ideal) me (sp (ix1 b))) else me (ix1 a)
  by_cases hs : BitVec.ofNat 32 a.val = sp (ix1 b)
  · rw [if_pos hs, if_pos hs]
    have ep : wordAt (F := Ideal) me (pc (ix1 b)) = me (ix1 ⟨(pc (ix1 b)).toNat, (ok _).1⟩) :=
      congrArg (fun a => me (ix1 a)) (Fin.ext (Nat.mod_eq_of_lt (ok _).1))
    have es : wordAt (F := Ideal) me (sp (ix1 b)) = me (ix1 ⟨(sp (ix1 b)).toNat, (ok _).2⟩) :=
      congrArg (fun a => me (ix1 a)) (Fin.ext (Nat.mod_eq_of_lt (ok _).2))
    rw [ep, es]
    obtain ⟨x, hx, lo, hi⟩ := small (ix1 ⟨(pc (ix1 b)).toNat, (ok _).1⟩)
    rw [hx]
    exact (lane_eq x _ lo hi).symm
  · rw [if_neg hs, if_neg hs]

end Cert.Proof.Vm

end
-- ==== Proof.lean ====
/- The proof of the certificate's claim: the kernel's runs (Proof/Run.lean) leave the result of Proof/Setup.lean at either
   reading of the numbers, and the reference's run leaves the same array (Proof/Reference.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Value
public import proofs.«01_k».proof.Proof.Gen.Pre_addresses
public import proofs.«01_k».proof.Proof.Gen.Pre_addresses_and_words
public import proofs.«01_k».proof.Proof.Run
public import proofs.«01_k».proof.Proof.Same
public import proofs.«01_k».proof.Proof.Pre
public import proofs.«01_k».proof.Proof.Reference
public import Idealize.ShloMosaic.Adequacy
public import Idealize.ShloMosaic.Init

@[expose] public section

noncomputable section

namespace Cert.Proof

open Idealize.ShloMosaic Idealize.SL.Sem Cert.Proof.Vm

theorem memOK_bits (m : (ℓ : Loc Cert.KernelIdeal.nD Cert.KernelIdeal.τ Cert.KernelIdeal.sig) → Buf (Elt Bits) ℓ)
    (h : Cert.Pre_Kernel m) : MemOK m := fun d => addrOK_of_addresses _ _ _ _ _ (h d)

theorem memOK_ideal (m : (ℓ : Loc Cert.KernelIdeal.nD Cert.KernelIdeal.τ Cert.KernelIdeal.sig) → Buf (Elt Ideal) ℓ)
    (h : Cert.Pre_KernelIdeal m) : MemOK m := fun d => addrOK_of_addresses _ _ _ _ _ (h d)

theorem memOK_words (m : (ℓ : Loc Cert.KernelIdeal.nD Cert.KernelIdeal.τ Cert.KernelIdeal.sig) → Buf (Elt Ideal) ℓ)
    (h : Cert.Pre_KernelIdeal_addresses_and_words m) : MemOK m := fun d => addrOK_of_words _ _ _ _ _ (h d)

theorem kernel_quiescent : Cert.quiescent_Kernel := by
  intro m ρ h
  rw [same_defs]
  exact (θ_run Cert.KernelIdeal.defs _ _).mono (fun _ e => And.intro (fun c => (e.1 c).1) e.2) (program_runs (F := Bits) m ρ (memOK_bits m h))

theorem kernelIdeal_quiescent : Cert.quiescent_KernelIdeal := fun m ρ h =>
  (θ_run Cert.KernelIdeal.defs _ _).mono (fun _ e => ⟨fun c => (e.1 c).1, e.2⟩) (program_runs (F := Ideal) m ρ (memOK_ideal m h))

theorem kernelIdeal_quiescent_words : Cert.quiescent_KernelIdeal_pre_addresses_and_words := fun m ρ h =>
  (θ_run Cert.KernelIdeal.defs _ _).mono (fun _ e => ⟨fun c => (e.1 c).1, e.2⟩) (program_runs (F := Ideal) m ρ (memOK_words m h))

theorem values : Cert.algebraic_KernelIdeal_ReferenceIdeal_pre_addresses_and_words := by
  intro m ρ m' ρ' h args
  refine ⟨fun c => out m c, ?_, ?_⟩
  · exact (θ_run Cert.KernelIdeal.defs _ _).mono (fun _ e c => ⟨(e.1 c).2, (e.1 c).1⟩) (program_runs (F := Ideal) m ρ (memOK_words m h))
  · refine (θ_run Cert.ReferenceIdeal.defs _ _).mono (fun _ e c => ⟨(e c).1.trans ?_, (e c).2⟩) (Cert.ReferenceIdeal.Value.run_blocks m' ρ')
    exact reference_out m' c _ _ _ (args c).1 (args c).2.1 (args c).2.2.2.2 (memOK_words m h c) (words_of_words _ _ _ _ _ (h c))

theorem claim : Cert.Claim :=
  ⟨Cert.Kernel.Gen.facts, Cert.KernelIdeal.Gen.facts, Cert.ReferenceIdeal.Gen.facts, Cert.Pre_addresses.Gen.facts,
    Cert.Pre_addresses_and_words.Gen.facts, kernel_quiescent, kernelIdeal_quiescent, kernelIdeal_quiescent_words,
    fun m ρ _ => Cert.ReferenceIdeal.Gen.frame m ρ, fun m ρ _ => Cert.ReferenceIdeal.Gen.frame m ρ, trivial, values⟩

end Cert.Proof

end
